-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_batch_is_sorted [hPre_batch_is_sorted : Cert.Pre_batch_is_sorted.Facts] (m : (ℓ : Loc Cert.KernelIdeal.nD Cert.KernelIdeal.τ Cert.KernelIdeal.sig) → Buf (Elt Ideal) ℓ) : Prop :=
  ∀ c : Dev Cert.KernelIdeal.nD,
    (Cert.Pre_batch_is_sorted.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_batch_is_sorted [hPre_batch_is_sorted : Cert.Pre_batch_is_sorted.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_batch_is_sorted.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ r.2.sem = fun _ => 0)

def quiescent_KernelIdeal_pre_batch_is_sorted [hKernelIdeal : Cert.KernelIdeal.Facts] [hPre_batch_is_sorted : Cert.Pre_batch_is_sorted.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_batch_is_sorted m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))
      ∧ r.2.sem = fun _ => 0)

def quiescent_ReferenceIdeal_pre_batch_is_sorted [hReferenceIdeal : Cert.ReferenceIdeal.Facts] [hPre_batch_is_sorted : Cert.Pre_batch_is_sorted.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_batch_is_sorted m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))
      ∧ r.2.sem = fun _ => 0)

def preserves_Kernel_KernelIdeal : Prop :=
  True

def algebraic_KernelIdeal_ReferenceIdeal_pre_batch_is_sorted [hKernelIdeal : Cert.KernelIdeal.Facts] [hReferenceIdeal : Cert.ReferenceIdeal.Facts] [hPre_batch_is_sorted : Cert.Pre_batch_is_sorted.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_batch_is_sorted m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v99) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19))

def Claim : Prop :=
  ∃ (hKernel : Cert.Kernel.Facts) (hKernelIdeal : Cert.KernelIdeal.Facts) (hReferenceIdeal : Cert.ReferenceIdeal.Facts) (hPre_batch_is_sorted : Cert.Pre_batch_is_sorted.Facts),
    quiescent_Kernel (hKernel := hKernel)
    ∧ quiescent_KernelIdeal (hKernelIdeal := hKernelIdeal)
    ∧ quiescent_KernelIdeal_pre_batch_is_sorted (hKernelIdeal := hKernelIdeal) (hPre_batch_is_sorted := hPre_batch_is_sorted)
    ∧ quiescent_ReferenceIdeal (hReferenceIdeal := hReferenceIdeal)
    ∧ quiescent_ReferenceIdeal_pre_batch_is_sorted (hReferenceIdeal := hReferenceIdeal) (hPre_batch_is_sorted := hPre_batch_is_sorted)
    ∧ preserves_Kernel_KernelIdeal
    ∧ algebraic_KernelIdeal_ReferenceIdeal_pre_batch_is_sorted (hKernelIdeal := hKernelIdeal) (hReferenceIdeal := hReferenceIdeal) (hPre_batch_is_sorted := hPre_batch_is_sorted)
-- ==== Pre_batch_is_sorted.lean ====
abbrev S16384x512 : Shape := ⟨2, ![16384, 512]⟩
abbrev S16384 : Shape := ⟨1, ![16384]⟩
abbrev S512x1 : Shape := ⟨2, ![512, 1]⟩
abbrev S1 : Shape := ⟨1, ![1]⟩
abbrev S512x512 : Shape := ⟨2, ![512, 512]⟩
abbrev S512 : Shape := ⟨1, ![512]⟩
abbrev S513x512 : Shape := ⟨2, ![513, 512]⟩
abbrev S1025x768 : Shape := ⟨2, ![1025, 768]⟩
abbrev S768 : Shape := ⟨1, ![768]⟩
abbrev S768x512 : Shape := ⟨2, ![768, 512]⟩
abbrev S16383 : Shape := ⟨1, ![16383]⟩
abbrev S_ : Shape := ⟨0, ![]⟩

class Facts : Prop where
  slices_S16384_S16383_0 : S16384.Slices ![0] S16383
  slices_S16384_S16383_1 : S16384.Slices ![1] S16383
  reducesTo_S16383_S_d0 : S16383.ReducesTo [0] S_
  h_S_ : 0 < S_.numel
  bcast_S_S16384 : S_.BroadcastsInDim S16384 (![] : Fin 0 → Fin S16384.rank)
  reducesTo_S16384_S_d0 : S16384.ReducesTo [0] S_

variable [Facts]

def fn {F : FTy → Type} [FloatOps F] (main_arg0 : FVec F S16384x512 .f32) (main_arg1 : IVec S16384 32) (main_arg2 : FVec F S512x1 .f32) (main_arg3 : FVec F S1 .f32) (main_arg4 : FVec F S512x512 .f32) (main_arg5 : FVec F S512 .f32) (main_arg6 : FVec F S512 .f32) (main_arg7 : FVec F S512 .f32) (main_arg8 : FVec F S512x512 .f32) (main_arg9 : FVec F S512 .f32) (main_arg10 : FVec F S513x512 .f32) (main_arg11 : FVec F S512 .f32) (main_arg12 : FVec F S512 .f32) (main_arg13 : FVec F S512 .f32) (main_arg14 : FVec F S512x512 .f32) (main_arg15 : FVec F S512 .f32) (main_arg16 : FVec F S1025x768 .f32) (main_arg17 : FVec F S768 .f32) (main_arg18 : FVec F S768x512 .f32) (main_arg19 : FVec F S512 .f32) : IVec S_ 1 :=
  let main_v0 : IVec S16383 32 := (extractStridedSlice S16383 ![0] · slices_S16384_S16383_0) main_arg1
  let main_v1 : IVec S16383 32 := (extractStridedSlice S16383 ![1] · slices_S16384_S16383_1) main_arg1
  let main_v2 : IVec S16383 1 := cmpi .sle main_v0 main_v1
  let main_c : IVec S_ 1 := constantI S_ 1 1#1
  let main_v3 : IVec S_ 1 := (fun x v => Host.reduce IntOp.andi x v reducesTo_S16383_S_d0 h_S_) main_v2 main_c
  let main_c_0 : IVec S_ 32 := constantI S_ 32 0#32
  let main_v4 : IVec S16384 32 := broadcastInDim S16384 ![] bcast_S_S16384 main_c_0
  let main_v5 : IVec S16384 1 := cmpi .sge main_arg1 main_v4
  let main_c_1 : IVec S_ 1 := constantI S_ 1 1#1
  let main_v6 : IVec S_ 1 := (fun x v => Host.reduce IntOp.andi x v reducesTo_S16384_S_d0 h_S_) main_v5 main_c_1
  let main_c_2 : IVec S_ 32 := constantI S_ 32 64#32
  let main_v7 : IVec S16384 32 := broadcastInDim S16384 ![] bcast_S_S16384 main_c_2
  let main_v8 : IVec S16384 1 := cmpi .slt main_arg1 main_v7
  let main_c_3 : IVec S_ 1 := constantI S_ 1 1#1
  let main_v9 : IVec S_ 1 := (fun x v => Host.reduce IntOp.andi x v reducesTo_S16384_S_d0 h_S_) main_v8 main_c_3
  let main_v10 : IVec S_ 1 := andi main_v6 main_v9
  let main_v11 : IVec S_ 1 := andi main_v10 main_v3
  main_v11
-- ==== Kernel.lean ====
abbrev S16384x512 : Shape := ⟨2, ![16384, 512]⟩
abbrev S16384 : Shape := ⟨1, ![16384]⟩
abbrev S512x1 : Shape := ⟨2, ![512, 1]⟩
abbrev S1 : Shape := ⟨1, ![1]⟩
abbrev S512x512 : Shape := ⟨2, ![512, 512]⟩
abbrev S512 : Shape := ⟨1, ![512]⟩
abbrev S513x512 : Shape := ⟨2, ![513, 512]⟩
abbrev S1025x768 : Shape := ⟨2, ![1025, 768]⟩
abbrev S768 : Shape := ⟨1, ![768]⟩
abbrev S768x512 : Shape := ⟨2, ![768, 512]⟩
abbrev S16384x1 : Shape := ⟨2, ![16384, 1]⟩
abbrev S1x1 : Shape := ⟨2, ![1, 1]⟩
abbrev S1x16384 : Shape := ⟨2, ![1, 16384]⟩
abbrev S8x2048 : Shape := ⟨2, ![8, 2048]⟩
abbrev S1x512 : Shape := ⟨2, ![1, 512]⟩
abbrev S1x768 : Shape := ⟨2, ![1, 768]⟩
abbrev S64x512 : Shape := ⟨2, ![64, 512]⟩
abbrev S520x512 : Shape := ⟨2, ![520, 512]⟩
abbrev S64x1 : Shape := ⟨2, ![64, 1]⟩
abbrev S1x2048 : Shape := ⟨2, ![1, 2048]⟩
abbrev S64x2048 : Shape := ⟨2, ![64, 2048]⟩
abbrev S64 : Shape := ⟨1, ![64]⟩
abbrev S513 : Shape := ⟨1, ![513]⟩
abbrev S513x1 : Shape := ⟨2, ![513, 1]⟩
abbrev S8x512 : Shape := ⟨2, ![8, 512]⟩
abbrev S8 : Shape := ⟨1, ![8]⟩
abbrev S8x1 : Shape := ⟨2, ![8, 1]⟩
abbrev S7x512 : Shape := ⟨2, ![7, 512]⟩
abbrev S1x512x1 : Shape := ⟨3, ![1, 512, 1]⟩
abbrev S1x1x1 : Shape := ⟨3, ![1, 1, 1]⟩
abbrev S1x8x2048 : Shape := ⟨3, ![1, 8, 2048]⟩
abbrev S512x256 : Shape := ⟨2, ![512, 256]⟩
abbrev S1x256 : Shape := ⟨2, ![1, 256]⟩
abbrev S1x520 : Shape := ⟨2, ![1, 520]⟩
abbrev S512x520 : Shape := ⟨2, ![512, 520]⟩
abbrev S1x64 : Shape := ⟨2, ![1, 64]⟩
abbrev S512x64 : Shape := ⟨2, ![512, 64]⟩
abbrev S512x768 : Shape := ⟨2, ![512, 768]⟩
abbrev S64x768 : Shape := ⟨2, ![64, 768]⟩
abbrev S1x513 : Shape := ⟨2, ![1, 513]⟩
abbrev S64x513 : Shape := ⟨2, ![64, 513]⟩
abbrev S513x768 : Shape := ⟨2, ![513, 768]⟩

abbrev nBuf : Space → Nat
  | .hbm => 41
  | .vmem => 31
  | .smem => 0
  | _ => 0

abbrev bufTy : (tb : Table) → Fin (tcTables nBuf tb) → BufTy
  | .hbm, ⟨0, _⟩ => ⟨S16384x512, .f32⟩
  | .hbm, ⟨1, _⟩ => ⟨S16384, .i32⟩
  | .hbm, ⟨2, _⟩ => ⟨S512x1, .f32⟩
  | .hbm, ⟨3, _⟩ => ⟨S1, .f32⟩
  | .hbm, ⟨4, _⟩ => ⟨S512x512, .f32⟩
  | .hbm, ⟨5, _⟩ => ⟨S512, .f32⟩
  | .hbm, ⟨6, _⟩ => ⟨S512, .f32⟩
  | .hbm, ⟨7, _⟩ => ⟨S512, .f32⟩
  | .hbm, ⟨8, _⟩ => ⟨S512x512, .f32⟩
  | .hbm, ⟨9, _⟩ => ⟨S512, .f32⟩
  | .hbm, ⟨10, _⟩ => ⟨S513x512, .f32⟩
  | .hbm, ⟨11, _⟩ => ⟨S512, .f32⟩
  | .hbm, ⟨12, _⟩ => ⟨S512, .f32⟩
  | .hbm, ⟨13, _⟩ => ⟨S512, .f32⟩
  | .hbm, ⟨14, _⟩ => ⟨S512x512, .f32⟩
  | .hbm, ⟨15, _⟩ => ⟨S512, .f32⟩
  | .hbm, ⟨16, _⟩ => ⟨S1025x768, .f32⟩
  | .hbm, ⟨17, _⟩ => ⟨S768, .f32⟩
  | .hbm, ⟨18, _⟩ => ⟨S768x512, .f32⟩
  | .hbm, ⟨19, _⟩ => ⟨S512, .f32⟩
  | .hbm, ⟨20, _⟩ => ⟨S16384x1, .f32⟩
  | .hbm, ⟨21, _⟩ => ⟨S1x1, .f32⟩
  | .hbm, ⟨22, _⟩ => ⟨S16384x1, .f32⟩
  | .hbm, ⟨23, _⟩ => ⟨S16384x1, .f32⟩
  | .hbm, ⟨24, _⟩ => ⟨S16384, .f32⟩
  | .hbm, ⟨25, _⟩ => ⟨S1x16384, .f32⟩
  | .hbm, ⟨26, _⟩ => ⟨S1x16384, .i32⟩
  | .hbm, ⟨27, _⟩ => ⟨S8x2048, .i32⟩
  | .hbm, ⟨28, _⟩ => ⟨S16384x1, .f32⟩
  | .hbm, ⟨29, _⟩ => ⟨S16384x1, .i32⟩
  | .hbm, ⟨30, _⟩ => ⟨S1x512, .f32⟩
  | .hbm, ⟨31, _⟩ => ⟨S1x512, .f32⟩
  | .hbm, ⟨32, _⟩ => ⟨S1x512, .f32⟩
  | .hbm, ⟨33, _⟩ => ⟨S1x512, .f32⟩
  | .hbm, ⟨34, _⟩ => ⟨S1x512, .f32⟩
  | .hbm, ⟨35, _⟩ => ⟨S1x512, .f32⟩
  | .hbm, ⟨36, _⟩ => ⟨S1x512, .f32⟩
  | .hbm, ⟨37, _⟩ => ⟨S1x512, .f32⟩
  | .hbm, ⟨38, _⟩ => ⟨S1x768, .f32⟩
  | .hbm, ⟨39, _⟩ => ⟨S1x512, .f32⟩
  | .hbm, ⟨40, _⟩ => ⟨S64x512, .f32⟩
  | .local _ .vmem, ⟨0, _⟩ => ⟨S1x16384, .f32⟩
  | .local _ .vmem, ⟨1, _⟩ => ⟨S1x16384, .i32⟩
  | .local _ .vmem, ⟨2, _⟩ => ⟨S8x2048, .i32⟩
  | .local _ .vmem, ⟨3, _⟩ => ⟨S512x1, .f32⟩
  | .local _ .vmem, ⟨4, _⟩ => ⟨S512x1, .f32⟩
  | .local _ .vmem, ⟨5, _⟩ => ⟨S512x1, .i32⟩
  | .local _ .vmem, ⟨6, _⟩ => ⟨S512x1, .i32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S1x512, .f32⟩
  | .local _ .vmem, ⟨11, _⟩ => ⟨S1x512, .f32⟩
  | .local _ .vmem, ⟨12, _⟩ => ⟨S1x512, .f32⟩
  | .local _ .vmem, ⟨13, _⟩ => ⟨S512x512, .f32⟩
  | .local _ .vmem, ⟨14, _⟩ => ⟨S1x512, .f32⟩
  | .local _ .vmem, ⟨15, _⟩ => ⟨S513x512, .f32⟩
  | .local _ .vmem, ⟨16, _⟩ => ⟨S1x512, .f32⟩
  | .local _ .vmem, ⟨17, _⟩ => ⟨S1x512, .f32⟩
  | .local _ .vmem, ⟨18, _⟩ => ⟨S1x512, .f32⟩
  | .local _ .vmem, ⟨19, _⟩ => ⟨S512x512, .f32⟩
  | .local _ .vmem, ⟨20, _⟩ => ⟨S1x512, .f32⟩
  | .local _ .vmem, ⟨21, _⟩ => ⟨S1025x768, .f32⟩
  | .local _ .vmem, ⟨22, _⟩ => ⟨S1x768, .f32⟩
  | .local _ .vmem, ⟨23, _⟩ => ⟨S768x512, .f32⟩
  | .local _ .vmem, ⟨24, _⟩ => ⟨S1x512, .f32⟩
  | .local _ .vmem, ⟨25, _⟩ => ⟨S64x512, .f32⟩
  | .local _ .vmem, ⟨26, _⟩ => ⟨S520x512, .bf16⟩
  | .local _ .vmem, ⟨27, _⟩ => ⟨S512x512, .bf16⟩
  | .local _ .vmem, ⟨28, _⟩ => ⟨S512x512, .bf16⟩
  | .local _ .vmem, ⟨29, _⟩ => ⟨S64x512, .f32⟩
  | .local _ .vmem, ⟨30, _⟩ => ⟨S64x1, .i32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg15_0 : Ref sig .tc := ⟨.vmem, 18, rfl⟩
abbrev cc0_stg16_0 : Ref sig .tc := ⟨.vmem, 19, rfl⟩
abbrev cc0_stg17_0 : Ref sig .tc := ⟨.vmem, 20, rfl⟩
abbrev cc0_stg18_0 : Ref sig .tc := ⟨.vmem, 21, rfl⟩
abbrev cc0_stg19_0 : Ref sig .tc := ⟨.vmem, 22, rfl⟩
abbrev cc0_stg20_0 : Ref sig .tc := ⟨.vmem, 23, rfl⟩
abbrev cc0_stg21_0 : Ref sig .tc := ⟨.vmem, 24, rfl⟩
abbrev cc0_stg22_0 : Ref sig .tc := ⟨.vmem, 25, rfl⟩
abbrev cc0_scratch0 : Ref sig .tc := ⟨.vmem, 26, rfl⟩
abbrev cc0_scratch1 : Ref sig .tc := ⟨.vmem, 27, rfl⟩
abbrev cc0_scratch2 : Ref sig .tc := ⟨.vmem, 28, rfl⟩
abbrev cc0_scratch3 : Ref sig .tc := ⟨.vmem, 29, rfl⟩
abbrev cc0_scratch4 : Ref sig .tc := ⟨.vmem, 30, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem15_0 : DmaSem sig := 18
abbrev cc0_sem16_0 : DmaSem sig := 19
abbrev cc0_sem17_0 : DmaSem sig := 20
abbrev cc0_sem18_0 : DmaSem sig := 21
abbrev cc0_sem19_0 : DmaSem sig := 22
abbrev cc0_sem20_0 : DmaSem sig := 23
abbrev cc0_sem21_0 : DmaSem sig := 24
abbrev cc0_sem22_0 : DmaSem sig := 25

abbrev nD : Nat := 1
abbrev τ : Topo := Topo.v7x

variable {F : FTy → Type} [FloatOps F]

abbrev grid0 : Pipeline.Grid := ⟨1, ![32], ![false]⟩

@[reducible] def k0_t1_loop (i : grid0.Coords) (v24 : BitVec 32) : Scf.Loop 32 :=
  let c0_i32_8 : BitVec 32 := 0#32
  let v26 : BitVec 1 := Scalar.cmpi .sgt v24 c0_i32_8
  let v27 : BitVec 32 := Scalar.extui v26
  let c0_i32_9 : BitVec 32 := 0#32
  let v28 : BitVec 1 := Scalar.cmpi .slt v24 c0_i32_9
  let v29 : BitVec 32 := Scalar.extui v28
  let v30 : BitVec 32 := Scalar.subi v27 v29
  let c256_i32 : BitVec 32 := 256#32
  let c0_i32_10 : BitVec 32 := 0#32
  let v31 : BitVec 1 := Scalar.cmpi .sgt c256_i32 c0_i32_10
  let v32 : BitVec 32 := Scalar.extui v31
  let c0_i32_11 : BitVec 32 := 0#32
  let v33 : BitVec 1 := Scalar.cmpi .slt c256_i32 c0_i32_11
  let v34 : BitVec 32 := Scalar.extui v33
  let v35 : BitVec 32 := Scalar.subi v32 v34
  let v36 : BitVec 1 := Scalar.cmpi .ne v30 v35
  let v37 : BitVec 32 := Scalar.remsi v24 c256_i32
  let c0_i32_12 : BitVec 32 := 0#32
  let v38 : BitVec 1 := Scalar.cmpi .ne v37 c0_i32_12
  let v39 : BitVec 1 := Scalar.andi v36 v38
  let v25 : BitVec 32 := Scalar.divsi v24 c256_i32
  let c1_i32 : BitVec 32 := 1#32
  let v40 : BitVec 32 := Scalar.subi v25 c1_i32
  let v41 : BitVec 32 := Scalar.select v39 v40 v25
  let arg0 : BitVec 32 := BitVec.ofNat 32 (i 0).val
  let c512_i32 : BitVec 32 := 512#32
  let v3 : BitVec 32 := Scalar.muli arg0 c512_i32
  let c0_i32_24 : BitVec 32 := 0#32
  let v69 : BitVec 1 := Scalar.cmpi .sgt v3 c0_i32_24
  let v70 : BitVec 32 := Scalar.extui v69
  let c0_i32_25 : BitVec 32 := 0#32
  let v71 : BitVec 1 := Scalar.cmpi .slt v3 c0_i32_25
  let v72 : BitVec 32 := Scalar.extui v71
  let v73 : BitVec 32 := Scalar.subi v70 v72
  let c256_i32_23 : BitVec 32 := 256#32
  let c0_i32_26 : BitVec 32 := 0#32
  let v74 : BitVec 1 := Scalar.cmpi .sgt c256_i32_23 c0_i32_26
  let v75 : BitVec 32 := Scalar.extui v74
  let c0_i32_27 : BitVec 32 := 0#32
  let v76 : BitVec 1 := Scalar.cmpi .slt c256_i32_23 c0_i32_27
  let v77 : BitVec 32 := Scalar.extui v76
  let v78 : BitVec 32 := Scalar.subi v75 v77
  let v79 : BitVec 1 := Scalar.cmpi .ne v73 v78
  let v80 : BitVec 32 := Scalar.remsi v3 c256_i32_23
  let c0_i32_28 : BitVec 32 := 0#32
  let v81 : BitVec 1 := Scalar.cmpi .ne v80 c0_i32_28
  let v82 : BitVec 1 := Scalar.andi v79 v81
  let v68 : BitVec 32 := Scalar.divsi v3 c256_i32_23
  let c1_i32_29 : BitVec 32 := 1#32
  let v83 : BitVec 32 := Scalar.subi v68 c1_i32_29
  let v84 : BitVec 32 := Scalar.select v82 v83 v68
  let v86 : BitVec 32 := Scalar.subi v84 v41
  let c1_i32_31 : BitVec 32 := 1#32
  let v88 : BitVec 32 := Scalar.divsi v86 c1_i32_31
  let v89 : BitVec 32 := Scalar.muli v88 c1_i32_31
  let v90 : BitVec 32 := Scalar.addi v41 v89
  let c1_i32_32 : BitVec 32 := 1#32
  ⟨v41, v90, c1_i32_32⟩

def k0_mult1 (i : grid0.Coords) (v24 : BitVec 32) (k0_t1 : Fin (k0_t1_loop i v24).trips) : BitVec 32 :=
  let c0_i32_8 : BitVec 32 := 0#32
  let v26 : BitVec 1 := Scalar.cmpi .sgt v24 c0_i32_8
  let v27 : BitVec 32 := Scalar.extui v26
  let c0_i32_9 : BitVec 32 := 0#32
  let v28 : BitVec 1 := Scalar.cmpi .slt v24 c0_i32_9
  let v29 : BitVec 32 := Scalar.extui v28
  let v30 : BitVec 32 := Scalar.subi v27 v29
  let c256_i32 : BitVec 32 := 256#32
  let c0_i32_10 : BitVec 32 := 0#32
  let v31 : BitVec 1 := Scalar.cmpi .sgt c256_i32 c0_i32_10
  let v32 : BitVec 32 := Scalar.extui v31
  let c0_i32_11 : BitVec 32 := 0#32
  let v33 : BitVec 1 := Scalar.cmpi .slt c256_i32 c0_i32_11
  let v34 : BitVec 32 := Scalar.extui v33
  let v35 : BitVec 32 := Scalar.subi v32 v34
  let v36 : BitVec 1 := Scalar.cmpi .ne v30 v35
  let v37 : BitVec 32 := Scalar.remsi v24 c256_i32
  let c0_i32_12 : BitVec 32 := 0#32
  let v38 : BitVec 1 := Scalar.cmpi .ne v37 c0_i32_12
  let v39 : BitVec 1 := Scalar.andi v36 v38
  let v25 : BitVec 32 := Scalar.divsi v24 c256_i32
  let c1_i32 : BitVec 32 := 1#32
  let v40 : BitVec 32 := Scalar.subi v25 c1_i32
  let v41 : BitVec 32 := Scalar.select v39 v40 v25
  let c1_i32_32 : BitVec 32 := 1#32
  let arg29 : BitVec 32 := Scf.iv v41 c1_i32_32 k0_t1
  let c256_i32_80 : BitVec 32 := 256#32
  let v235 : BitVec 32 := Scalar.muli arg29 c256_i32_80
  v235
def k0_off1 (i : grid0.Coords) (v24 : BitVec 32) (k0_t1 : Fin (k0_t1_loop i v24).trips) : Fin 2 → Nat :=
  let c0_81 : Index := 0#32
  let c0_i32_8 : BitVec 32 := 0#32
  let v26 : BitVec 1 := Scalar.cmpi .sgt v24 c0_i32_8
  let v27 : BitVec 32 := Scalar.extui v26
  let c0_i32_9 : BitVec 32 := 0#32
  let v28 : BitVec 1 := Scalar.cmpi .slt v24 c0_i32_9
  let v29 : BitVec 32 := Scalar.extui v28
  let v30 : BitVec 32 := Scalar.subi v27 v29
  let c256_i32 : BitVec 32 := 256#32
  let c0_i32_10 : BitVec 32 := 0#32
  let v31 : BitVec 1 := Scalar.cmpi .sgt c256_i32 c0_i32_10
  let v32 : BitVec 32 := Scalar.extui v31
  let c0_i32_11 : BitVec 32 := 0#32
  let v33 : BitVec 1 := Scalar.cmpi .slt c256_i32 c0_i32_11
  let v34 : BitVec 32 := Scalar.extui v33
  let v35 : BitVec 32 := Scalar.subi v32 v34
  let v36 : BitVec 1 := Scalar.cmpi .ne v30 v35
  let v37 : BitVec 32 := Scalar.remsi v24 c256_i32
  let c0_i32_12 : BitVec 32 := 0#32
  let v38 : BitVec 1 := Scalar.cmpi .ne v37 c0_i32_12
  let v39 : BitVec 1 := Scalar.andi v36 v38
  let v25 : BitVec 32 := Scalar.divsi v24 c256_i32
  let c1_i32 : BitVec 32 := 1#32
  let v40 : BitVec 32 := Scalar.subi v25 c1_i32
  let v41 : BitVec 32 := Scalar.select v39 v40 v25
  let c1_i32_32 : BitVec 32 := 1#32
  let arg29 : BitVec 32 := Scf.iv v41 c1_i32_32 k0_t1
  let c256_i32_80 : BitVec 32 := 256#32
  let v235 : BitVec 32 := Scalar.muli arg29 c256_i32_80
  let v236 : BitVec 32 := v235
  let v237 : Index := Scalar.indexCast v236
  ![0, v237.toNat]
@[reducible] def k0_t2_loop (i : grid0.Coords) (v24 : BitVec 32) : Scf.Loop 32 :=
  let c0_i32_8 : BitVec 32 := 0#32
  let v26 : BitVec 1 := Scalar.cmpi .sgt v24 c0_i32_8
  let v27 : BitVec 32 := Scalar.extui v26
  let c0_i32_9 : BitVec 32 := 0#32
  let v28 : BitVec 1 := Scalar.cmpi .slt v24 c0_i32_9
  let v29 : BitVec 32 := Scalar.extui v28
  let v30 : BitVec 32 := Scalar.subi v27 v29
  let c256_i32 : BitVec 32 := 256#32
  let c0_i32_10 : BitVec 32 := 0#32
  let v31 : BitVec 1 := Scalar.cmpi .sgt c256_i32 c0_i32_10
  let v32 : BitVec 32 := Scalar.extui v31
  let c0_i32_11 : BitVec 32 := 0#32
  let v33 : BitVec 1 := Scalar.cmpi .slt c256_i32 c0_i32_11
  let v34 : BitVec 32 := Scalar.extui v33
  let v35 : BitVec 32 := Scalar.subi v32 v34
  let v36 : BitVec 1 := Scalar.cmpi .ne v30 v35
  let v37 : BitVec 32 := Scalar.remsi v24 c256_i32
  let c0_i32_12 : BitVec 32 := 0#32
  let v38 : BitVec 1 := Scalar.cmpi .ne v37 c0_i32_12
  let v39 : BitVec 1 := Scalar.andi v36 v38
  let v25 : BitVec 32 := Scalar.divsi v24 c256_i32
  let c1_i32 : BitVec 32 := 1#32
  let v40 : BitVec 32 := Scalar.subi v25 c1_i32
  let v41 : BitVec 32 := Scalar.select v39 v40 v25
  let arg0 : BitVec 32 := BitVec.ofNat 32 (i 0).val
  let c512_i32 : BitVec 32 := 512#32
  let v3 : BitVec 32 := Scalar.muli arg0 c512_i32
  let c0_i32_24 : BitVec 32 := 0#32
  let v69 : BitVec 1 := Scalar.cmpi .sgt v3 c0_i32_24
  let v70 : BitVec 32 := Scalar.extui v69
  let c0_i32_25 : BitVec 32 := 0#32
  let v71 : BitVec 1 := Scalar.cmpi .slt v3 c0_i32_25
  let v72 : BitVec 32 := Scalar.extui v71
  let v73 : BitVec 32 := Scalar.subi v70 v72
  let c256_i32_23 : BitVec 32 := 256#32
  let c0_i32_26 : BitVec 32 := 0#32
  let v74 : BitVec 1 := Scalar.cmpi .sgt c256_i32_23 c0_i32_26
  let v75 : BitVec 32 := Scalar.extui v74
  let c0_i32_27 : BitVec 32 := 0#32
  let v76 : BitVec 1 := Scalar.cmpi .slt c256_i32_23 c0_i32_27
  let v77 : BitVec 32 := Scalar.extui v76
  let v78 : BitVec 32 := Scalar.subi v75 v77
  let v79 : BitVec 1 := Scalar.cmpi .ne v73 v78
  let v80 : BitVec 32 := Scalar.remsi v3 c256_i32_23
  let c0_i32_28 : BitVec 32 := 0#32
  let v81 : BitVec 1 := Scalar.cmpi .ne v80 c0_i32_28
  let v82 : BitVec 1 := Scalar.andi v79 v81
  let v68 : BitVec 32 := Scalar.divsi v3 c256_i32_23
  let c1_i32_29 : BitVec 32 := 1#32
  let v83 : BitVec 32 := Scalar.subi v68 c1_i32_29
  let v84 : BitVec 32 := Scalar.select v82 v83 v68
  let v86 : BitVec 32 := Scalar.subi v84 v41
  let c1_i32_31 : BitVec 32 := 1#32
  let v88 : BitVec 32 := Scalar.divsi v86 c1_i32_31
  let v89 : BitVec 32 := Scalar.muli v88 c1_i32_31
  let v90 : BitVec 32 := Scalar.addi v41 v89
  let v87 : BitVec 32 := Scalar.addi v41 v86
  let c1_i32_33 : BitVec 32 := 1#32
  ⟨v90, v87, c1_i32_33⟩
def k0_mult2 (i : grid0.Coords) (v24 : BitVec 32) (k0_t2 : Fin (k0_t2_loop i v24).trips) : BitVec 32 :=
  let c0_i32_8 : BitVec 32 := 0#32
  let v26 : BitVec 1 := Scalar.cmpi .sgt v24 c0_i32_8
  let v27 : BitVec 32 := Scalar.extui v26
  let c0_i32_9 : BitVec 32 := 0#32
  let v28 : BitVec 1 := Scalar.cmpi .slt v24 c0_i32_9
  let v29 : BitVec 32 := Scalar.extui v28
  let v30 : BitVec 32 := Scalar.subi v27 v29
  let c256_i32 : BitVec 32 := 256#32
  let c0_i32_10 : BitVec 32 := 0#32
  let v31 : BitVec 1 := Scalar.cmpi .sgt c256_i32 c0_i32_10
  let v32 : BitVec 32 := Scalar.extui v31
  let c0_i32_11 : BitVec 32 := 0#32
  let v33 : BitVec 1 := Scalar.cmpi .slt c256_i32 c0_i32_11
  let v34 : BitVec 32 := Scalar.extui v33
  let v35 : BitVec 32 := Scalar.subi v32 v34
  let v36 : BitVec 1 := Scalar.cmpi .ne v30 v35
  let v37 : BitVec 32 := Scalar.remsi v24 c256_i32
  let c0_i32_12 : BitVec 32 := 0#32
  let v38 : BitVec 1 := Scalar.cmpi .ne v37 c0_i32_12
  let v39 : BitVec 1 := Scalar.andi v36 v38
  let v25 : BitVec 32 := Scalar.divsi v24 c256_i32
  let c1_i32 : BitVec 32 := 1#32
  let v40 : BitVec 32 := Scalar.subi v25 c1_i32
  let v41 : BitVec 32 := Scalar.select v39 v40 v25
  let arg0 : BitVec 32 := BitVec.ofNat 32 (i 0).val
  let c512_i32 : BitVec 32 := 512#32
  let v3 : BitVec 32 := Scalar.muli arg0 c512_i32
  let c0_i32_24 : BitVec 32 := 0#32
  let v69 : BitVec 1 := Scalar.cmpi .sgt v3 c0_i32_24
  let v70 : BitVec 32 := Scalar.extui v69
  let c0_i32_25 : BitVec 32 := 0#32
  let v71 : BitVec 1 := Scalar.cmpi .slt v3 c0_i32_25
  let v72 : BitVec 32 := Scalar.extui v71
  let v73 : BitVec 32 := Scalar.subi v70 v72
  let c256_i32_23 : BitVec 32 := 256#32
  let c0_i32_26 : BitVec 32 := 0#32
  let v74 : BitVec 1 := Scalar.cmpi .sgt c256_i32_23 c0_i32_26
  let v75 : BitVec 32 := Scalar.extui v74
  let c0_i32_27 : BitVec 32 := 0#32
  let v76 : BitVec 1 := Scalar.cmpi .slt c256_i32_23 c0_i32_27
  let v77 : BitVec 32 := Scalar.extui v76
  let v78 : BitVec 32 := Scalar.subi v75 v77
  let v79 : BitVec 1 := Scalar.cmpi .ne v73 v78
  let v80 : BitVec 32 := Scalar.remsi v3 c256_i32_23
  let c0_i32_28 : BitVec 32 := 0#32
  let v81 : BitVec 1 := Scalar.cmpi .ne v80 c0_i32_28
  let v82 : BitVec 1 := Scalar.andi v79 v81
  let v68 : BitVec 32 := Scalar.divsi v3 c256_i32_23
  let c1_i32_29 : BitVec 32 := 1#32
  let v83 : BitVec 32 := Scalar.subi v68 c1_i32_29
  let v84 : BitVec 32 := Scalar.select v82 v83 v68
  let v86 : BitVec 32 := Scalar.subi v84 v41
  let c1_i32_31 : BitVec 32 := 1#32
  let v88 : BitVec 32 := Scalar.divsi v86 c1_i32_31
  let v89 : BitVec 32 := Scalar.muli v88 c1_i32_31
  let v90 : BitVec 32 := Scalar.addi v41 v89
  let c1_i32_33 : BitVec 32 := 1#32
  let arg29 : BitVec 32 := Scf.iv v90 c1_i32_33 k0_t2
  let c256_i32_80 : BitVec 32 := 256#32
  let v235 : BitVec 32 := Scalar.muli arg29 c256_i32_80
  v235
def k0_off2 (i : grid0.Coords) (v24 : BitVec 32) (k0_t2 : Fin (k0_t2_loop i v24).trips) : Fin 2 → Nat :=
  let c0_81 : Index := 0#32
  let c0_i32_8 : BitVec 32 := 0#32
  let v26 : BitVec 1 := Scalar.cmpi .sgt v24 c0_i32_8
  let v27 : BitVec 32 := Scalar.extui v26
  let c0_i32_9 : BitVec 32 := 0#32
  let v28 : BitVec 1 := Scalar.cmpi .slt v24 c0_i32_9
  let v29 : BitVec 32 := Scalar.extui v28
  let v30 : BitVec 32 := Scalar.subi v27 v29
  let c256_i32 : BitVec 32 := 256#32
  let c0_i32_10 : BitVec 32 := 0#32
  let v31 : BitVec 1 := Scalar.cmpi .sgt c256_i32 c0_i32_10
  let v32 : BitVec 32 := Scalar.extui v31
  let c0_i32_11 : BitVec 32 := 0#32
  let v33 : BitVec 1 := Scalar.cmpi .slt c256_i32 c0_i32_11
  let v34 : BitVec 32 := Scalar.extui v33
  let v35 : BitVec 32 := Scalar.subi v32 v34
  let v36 : BitVec 1 := Scalar.cmpi .ne v30 v35
  let v37 : BitVec 32 := Scalar.remsi v24 c256_i32
  let c0_i32_12 : BitVec 32 := 0#32
  let v38 : BitVec 1 := Scalar.cmpi .ne v37 c0_i32_12
  let v39 : BitVec 1 := Scalar.andi v36 v38
  let v25 : BitVec 32 := Scalar.divsi v24 c256_i32
  let c1_i32 : BitVec 32 := 1#32
  let v40 : BitVec 32 := Scalar.subi v25 c1_i32
  let v41 : BitVec 32 := Scalar.select v39 v40 v25
  let arg0 : BitVec 32 := BitVec.ofNat 32 (i 0).val
  let c512_i32 : BitVec 32 := 512#32
  let v3 : BitVec 32 := Scalar.muli arg0 c512_i32
  let c0_i32_24 : BitVec 32 := 0#32
  let v69 : BitVec 1 := Scalar.cmpi .sgt v3 c0_i32_24
  let v70 : BitVec 32 := Scalar.extui v69
  let c0_i32_25 : BitVec 32 := 0#32
  let v71 : BitVec 1 := Scalar.cmpi .slt v3 c0_i32_25
  let v72 : BitVec 32 := Scalar.extui v71
  let v73 : BitVec 32 := Scalar.subi v70 v72
  let c256_i32_23 : BitVec 32 := 256#32
  let c0_i32_26 : BitVec 32 := 0#32
  let v74 : BitVec 1 := Scalar.cmpi .sgt c256_i32_23 c0_i32_26
  let v75 : BitVec 32 := Scalar.extui v74
  let c0_i32_27 : BitVec 32 := 0#32
  let v76 : BitVec 1 := Scalar.cmpi .slt c256_i32_23 c0_i32_27
  let v77 : BitVec 32 := Scalar.extui v76
  let v78 : BitVec 32 := Scalar.subi v75 v77
  let v79 : BitVec 1 := Scalar.cmpi .ne v73 v78
  let v80 : BitVec 32 := Scalar.remsi v3 c256_i32_23
  let c0_i32_28 : BitVec 32 := 0#32
  let v81 : BitVec 1 := Scalar.cmpi .ne v80 c0_i32_28
  let v82 : BitVec 1 := Scalar.andi v79 v81
  let v68 : BitVec 32 := Scalar.divsi v3 c256_i32_23
  let c1_i32_29 : BitVec 32 := 1#32
  let v83 : BitVec 32 := Scalar.subi v68 c1_i32_29
  let v84 : BitVec 32 := Scalar.select v82 v83 v68
  let v86 : BitVec 32 := Scalar.subi v84 v41
  let c1_i32_31 : BitVec 32 := 1#32
  let v88 : BitVec 32 := Scalar.divsi v86 c1_i32_31
  let v89 : BitVec 32 := Scalar.muli v88 c1_i32_31
  let v90 : BitVec 32 := Scalar.addi v41 v89
  let c1_i32_33 : BitVec 32 := 1#32
  let arg29 : BitVec 32 := Scf.iv v90 c1_i32_33 k0_t2
  let c256_i32_80 : BitVec 32 := 256#32
  let v235 : BitVec 32 := Scalar.muli arg29 c256_i32_80
  let v236 : BitVec 32 := v235
  let v237 : Index := Scalar.indexCast v236
  ![0, v237.toNat]

def k0_chk1 (i : grid0.Coords) (v24 : BitVec 32) : Prop :=
  ((k0_t1_loop i v24).OK) ∧
  (∀ k0_t1 : Fin (k0_t1_loop i v24).trips, 256 ∣ (k0_mult1 i v24 k0_t1).toNat) ∧
  (∀ k0_t1 : Fin (k0_t1_loop i v24).trips, ∀ a, (k0_off1 i v24 k0_t1) a + S1x256.size a ≤ S1x16384.size a) ∧
  ((k0_t2_loop i v24).OK) ∧
  (∀ k0_t2 : Fin (k0_t2_loop i v24).trips, 256 ∣ (k0_mult2 i v24 k0_t2).toNat) ∧
  (∀ k0_t2 : Fin (k0_t2_loop i v24).trips, ∀ a, (k0_off2 i v24 k0_t2) a + S1x256.size a ≤ S1x16384.size a)
theorem k0_t1_ok : ∀ (i : grid0.Coords) (v24 : BitVec 32) (k0_hw1 : k0_chk1 i v24), (k0_t1_loop i v24).OK := fun i v24 k0_hw1 => k0_hw1.1
theorem k0_mult1_dvd : ∀ (i : grid0.Coords) (v24 : BitVec 32) (k0_hw1 : k0_chk1 i v24) (k0_t1 : Fin (k0_t1_loop i v24).trips), 256 ∣ (k0_mult1 i v24 k0_t1).toNat := fun i v24 k0_hw1 k0_t1 => k0_hw1.2.1 k0_t1
theorem k0_off1_inb : ∀ (i : grid0.Coords) (v24 : BitVec 32) (k0_hw1 : k0_chk1 i v24) (k0_t1 : Fin (k0_t1_loop i v24).trips), ∀ a, (k0_off1 i v24 k0_t1) a + S1x256.size a ≤ S1x16384.size a := fun i v24 k0_hw1 k0_t1 => k0_hw1.2.2.1 k0_t1
theorem k0_t2_ok : ∀ (i : grid0.Coords) (v24 : BitVec 32) (k0_hw1 : k0_chk1 i v24), (k0_t2_loop i v24).OK := fun i v24 k0_hw1 => k0_hw1.2.2.2.1
theorem k0_mult2_dvd : ∀ (i : grid0.Coords) (v24 : BitVec 32) (k0_hw1 : k0_chk1 i v24) (k0_t2 : Fin (k0_t2_loop i v24).trips), 256 ∣ (k0_mult2 i v24 k0_t2).toNat := fun i v24 k0_hw1 k0_t2 => k0_hw1.2.2.2.2.1 k0_t2
theorem k0_off2_inb : ∀ (i : grid0.Coords) (v24 : BitVec 32) (k0_hw1 : k0_chk1 i v24) (k0_t2 : Fin (k0_t2_loop i v24).trips), ∀ a, (k0_off2 i v24 k0_t2) a + S1x256.size a ≤ S1x16384.size a := fun i v24 k0_hw1 k0_t2 => k0_hw1.2.2.2.2.2 k0_t2

def k0_mult3 (i : grid0.Coords) : BitVec 32 :=
  let arg0 : BitVec 32 := BitVec.ofNat 32 (i 0).val
  let c512_i32 : BitVec 32 := 512#32
  let v3 : BitVec 32 := Scalar.muli arg0 c512_i32
  let c0_i32_24 : BitVec 32 := 0#32
  let v69 : BitVec 1 := Scalar.cmpi .sgt v3 c0_i32_24
  let v70 : BitVec 32 := Scalar.extui v69
  let c0_i32_25 : BitVec 32 := 0#32
  let v71 : BitVec 1 := Scalar.cmpi .slt v3 c0_i32_25
  let v72 : BitVec 32 := Scalar.extui v71
  let v73 : BitVec 32 := Scalar.subi v70 v72
  let c256_i32_23 : BitVec 32 := 256#32
  let c0_i32_26 : BitVec 32 := 0#32
  let v74 : BitVec 1 := Scalar.cmpi .sgt c256_i32_23 c0_i32_26
  let v75 : BitVec 32 := Scalar.extui v74
  let c0_i32_27 : BitVec 32 := 0#32
  let v76 : BitVec 1 := Scalar.cmpi .slt c256_i32_23 c0_i32_27
  let v77 : BitVec 32 := Scalar.extui v76
  let v78 : BitVec 32 := Scalar.subi v75 v77
  let v79 : BitVec 1 := Scalar.cmpi .ne v73 v78
  let v80 : BitVec 32 := Scalar.remsi v3 c256_i32_23
  let c0_i32_28 : BitVec 32 := 0#32
  let v81 : BitVec 1 := Scalar.cmpi .ne v80 c0_i32_28
  let v82 : BitVec 1 := Scalar.andi v79 v81
  let v68 : BitVec 32 := Scalar.divsi v3 c256_i32_23
  let c1_i32_29 : BitVec 32 := 1#32
  let v83 : BitVec 32 := Scalar.subi v68 c1_i32_29
  let v84 : BitVec 32 := Scalar.select v82 v83 v68
  let c0_i32_34 : BitVec 32 := 0#32
  let v95 : BitVec 32 := Scalar.addi v84 c0_i32_34
  let c256_i32_35 : BitVec 32 := 256#32
  let v96 : BitVec 32 := Scalar.muli v95 c256_i32_35
  v96
def k0_off3 (i : grid0.Coords) (c0_i32_34 : BitVec 32) : Fin 2 → Nat :=
  let c0_36 : Index := 0#32
  let arg0 : BitVec 32 := BitVec.ofNat 32 (i 0).val
  let c512_i32 : BitVec 32 := 512#32
  let v3 : BitVec 32 := Scalar.muli arg0 c512_i32
  let c0_i32_24 : BitVec 32 := 0#32
  let v69 : BitVec 1 := Scalar.cmpi .sgt v3 c0_i32_24
  let v70 : BitVec 32 := Scalar.extui v69
  let c0_i32_25 : BitVec 32 := 0#32
  let v71 : BitVec 1 := Scalar.cmpi .slt v3 c0_i32_25
  let v72 : BitVec 32 := Scalar.extui v71
  let v73 : BitVec 32 := Scalar.subi v70 v72
  let c256_i32_23 : BitVec 32 := 256#32
  let c0_i32_26 : BitVec 32 := 0#32
  let v74 : BitVec 1 := Scalar.cmpi .sgt c256_i32_23 c0_i32_26
  let v75 : BitVec 32 := Scalar.extui v74
  let c0_i32_27 : BitVec 32 := 0#32
  let v76 : BitVec 1 := Scalar.cmpi .slt c256_i32_23 c0_i32_27
  let v77 : BitVec 32 := Scalar.extui v76
  let v78 : BitVec 32 := Scalar.subi v75 v77
  let v79 : BitVec 1 := Scalar.cmpi .ne v73 v78
  let v80 : BitVec 32 := Scalar.remsi v3 c256_i32_23
  let c0_i32_28 : BitVec 32 := 0#32
  let v81 : BitVec 1 := Scalar.cmpi .ne v80 c0_i32_28
  let v82 : BitVec 1 := Scalar.andi v79 v81
  let v68 : BitVec 32 := Scalar.divsi v3 c256_i32_23
  let c1_i32_29 : BitVec 32 := 1#32
  let v83 : BitVec 32 := Scalar.subi v68 c1_i32_29
  let v84 : BitVec 32 := Scalar.select v82 v83 v68
  let v95 : BitVec 32 := Scalar.addi v84 c0_i32_34
  let c256_i32_35 : BitVec 32 := 256#32
  let v96 : BitVec 32 := Scalar.muli v95 c256_i32_35
  let v97 : BitVec 32 := v96
  let v98 : Index := Scalar.indexCast v97
  ![0, v98.toNat]
def k0_mult4 (i : grid0.Coords) : BitVec 32 :=
  let arg0 : BitVec 32 := BitVec.ofNat 32 (i 0).val
  let c512_i32 : BitVec 32 := 512#32
  let v3 : BitVec 32 := Scalar.muli arg0 c512_i32
  let c0_i32_24 : BitVec 32 := 0#32
  let v69 : BitVec 1 := Scalar.cmpi .sgt v3 c0_i32_24
  let v70 : BitVec 32 := Scalar.extui v69
  let c0_i32_25 : BitVec 32 := 0#32
  let v71 : BitVec 1 := Scalar.cmpi .slt v3 c0_i32_25
  let v72 : BitVec 32 := Scalar.extui v71
  let v73 : BitVec 32 := Scalar.subi v70 v72
  let c256_i32_23 : BitVec 32 := 256#32
  let c0_i32_26 : BitVec 32 := 0#32
  let v74 : BitVec 1 := Scalar.cmpi .sgt c256_i32_23 c0_i32_26
  let v75 : BitVec 32 := Scalar.extui v74
  let c0_i32_27 : BitVec 32 := 0#32
  let v76 : BitVec 1 := Scalar.cmpi .slt c256_i32_23 c0_i32_27
  let v77 : BitVec 32 := Scalar.extui v76
  let v78 : BitVec 32 := Scalar.subi v75 v77
  let v79 : BitVec 1 := Scalar.cmpi .ne v73 v78
  let v80 : BitVec 32 := Scalar.remsi v3 c256_i32_23
  let c0_i32_28 : BitVec 32 := 0#32
  let v81 : BitVec 1 := Scalar.cmpi .ne v80 c0_i32_28
  let v82 : BitVec 1 := Scalar.andi v79 v81
  let v68 : BitVec 32 := Scalar.divsi v3 c256_i32_23
  let c1_i32_29 : BitVec 32 := 1#32
  let v83 : BitVec 32 := Scalar.subi v68 c1_i32_29
  let v84 : BitVec 32 := Scalar.select v82 v83 v68
  let c1_i32_39 : BitVec 32 := 1#32
  let v123 : BitVec 32 := Scalar.addi v84 c1_i32_39
  let c256_i32_40 : BitVec 32 := 256#32
  let v124 : BitVec 32 := Scalar.muli v123 c256_i32_40
  v124
@[reducible] def k0_t3_loop (i : grid0.Coords) (v48 : BitVec 32) : Scf.Loop 32 :=
  let arg0 : BitVec 32 := BitVec.ofNat 32 (i 0).val
  let c512_i32 : BitVec 32 := 512#32
  let v3 : BitVec 32 := Scalar.muli arg0 c512_i32
  let c0_i32_24 : BitVec 32 := 0#32
  let v69 : BitVec 1 := Scalar.cmpi .sgt v3 c0_i32_24
  let v70 : BitVec 32 := Scalar.extui v69
  let c0_i32_25 : BitVec 32 := 0#32
  let v71 : BitVec 1 := Scalar.cmpi .slt v3 c0_i32_25
  let v72 : BitVec 32 := Scalar.extui v71
  let v73 : BitVec 32 := Scalar.subi v70 v72
  let c256_i32_23 : BitVec 32 := 256#32
  let c0_i32_26 : BitVec 32 := 0#32
  let v74 : BitVec 1 := Scalar.cmpi .sgt c256_i32_23 c0_i32_26
  let v75 : BitVec 32 := Scalar.extui v74
  let c0_i32_27 : BitVec 32 := 0#32
  let v76 : BitVec 1 := Scalar.cmpi .slt c256_i32_23 c0_i32_27
  let v77 : BitVec 32 := Scalar.extui v76
  let v78 : BitVec 32 := Scalar.subi v75 v77
  let v79 : BitVec 1 := Scalar.cmpi .ne v73 v78
  let v80 : BitVec 32 := Scalar.remsi v3 c256_i32_23
  let c0_i32_28 : BitVec 32 := 0#32
  let v81 : BitVec 1 := Scalar.cmpi .ne v80 c0_i32_28
  let v82 : BitVec 1 := Scalar.andi v79 v81
  let v68 : BitVec 32 := Scalar.divsi v3 c256_i32_23
  let c1_i32_29 : BitVec 32 := 1#32
  let v83 : BitVec 32 := Scalar.subi v68 c1_i32_29
  let v84 : BitVec 32 := Scalar.select v82 v83 v68
  let c2_i32 : BitVec 32 := 2#32
  let v151 : BitVec 32 := Scalar.addi v84 c2_i32
  let c256_i32_14 : BitVec 32 := 256#32
  let v49 : BitVec 32 := Scalar.addi v48 c256_i32_14
  let c1_i32_15 : BitVec 32 := 1#32
  let v50 : BitVec 32 := Scalar.subi v49 c1_i32_15
  let c0_i32_17 : BitVec 32 := 0#32
  let v52 : BitVec 1 := Scalar.cmpi .sgt v50 c0_i32_17
  let v53 : BitVec 32 := Scalar.extui v52
  let c0_i32_18 : BitVec 32 := 0#32
  let v54 : BitVec 1 := Scalar.cmpi .slt v50 c0_i32_18
  let v55 : BitVec 32 := Scalar.extui v54
  let v56 : BitVec 32 := Scalar.subi v53 v55
  let c256_i32_16 : BitVec 32 := 256#32
  let c0_i32_19 : BitVec 32 := 0#32
  let v57 : BitVec 1 := Scalar.cmpi .sgt c256_i32_16 c0_i32_19
  let v58 : BitVec 32 := Scalar.extui v57
  let c0_i32_20 : BitVec 32 := 0#32
  let v59 : BitVec 1 := Scalar.cmpi .slt c256_i32_16 c0_i32_20
  let v60 : BitVec 32 := Scalar.extui v59
  let v61 : BitVec 32 := Scalar.subi v58 v60
  let v62 : BitVec 1 := Scalar.cmpi .ne v56 v61
  let v63 : BitVec 32 := Scalar.remsi v50 c256_i32_16
  let c0_i32_21 : BitVec 32 := 0#32
  let v64 : BitVec 1 := Scalar.cmpi .ne v63 c0_i32_21
  let v65 : BitVec 1 := Scalar.andi v62 v64
  let v51 : BitVec 32 := Scalar.divsi v50 c256_i32_16
  let c1_i32_22 : BitVec 32 := 1#32
  let v66 : BitVec 32 := Scalar.subi v51 c1_i32_22
  let v67 : BitVec 32 := Scalar.select v65 v66 v51
  let v152 : BitVec 32 := Scalar.subi v67 v151
  let c1_i32_44 : BitVec 32 := 1#32
  let v154 : BitVec 32 := Scalar.divsi v152 c1_i32_44
  let v155 : BitVec 32 := Scalar.muli v154 c1_i32_44
  let v156 : BitVec 32 := Scalar.addi v151 v155
  let c1_i32_45 : BitVec 32 := 1#32
  ⟨v151, v156, c1_i32_45⟩

def k0_mult5 (i : grid0.Coords) (v48 : BitVec 32) (k0_t3 : Fin (k0_t3_loop i v48).trips) : BitVec 32 :=
  let arg0 : BitVec 32 := BitVec.ofNat 32 (i 0).val
  let c512_i32 : BitVec 32 := 512#32
  let v3 : BitVec 32 := Scalar.muli arg0 c512_i32
  let c0_i32_24 : BitVec 32 := 0#32
  let v69 : BitVec 1 := Scalar.cmpi .sgt v3 c0_i32_24
  let v70 : BitVec 32 := Scalar.extui v69
  let c0_i32_25 : BitVec 32 := 0#32
  let v71 : BitVec 1 := Scalar.cmpi .slt v3 c0_i32_25
  let v72 : BitVec 32 := Scalar.extui v71
  let v73 : BitVec 32 := Scalar.subi v70 v72
  let c256_i32_23 : BitVec 32 := 256#32
  let c0_i32_26 : BitVec 32 := 0#32
  let v74 : BitVec 1 := Scalar.cmpi .sgt c256_i32_23 c0_i32_26
  let v75 : BitVec 32 := Scalar.extui v74
  let c0_i32_27 : BitVec 32 := 0#32
  let v76 : BitVec 1 := Scalar.cmpi .slt c256_i32_23 c0_i32_27
  let v77 : BitVec 32 := Scalar.extui v76
  let v78 : BitVec 32 := Scalar.subi v75 v77
  let v79 : BitVec 1 := Scalar.cmpi .ne v73 v78
  let v80 : BitVec 32 := Scalar.remsi v3 c256_i32_23
  let c0_i32_28 : BitVec 32 := 0#32
  let v81 : BitVec 1 := Scalar.cmpi .ne v80 c0_i32_28
  let v82 : BitVec 1 := Scalar.andi v79 v81
  let v68 : BitVec 32 := Scalar.divsi v3 c256_i32_23
  let c1_i32_29 : BitVec 32 := 1#32
  let v83 : BitVec 32 := Scalar.subi v68 c1_i32_29
  let v84 : BitVec 32 := Scalar.select v82 v83 v68
  let c2_i32 : BitVec 32 := 2#32
  let v151 : BitVec 32 := Scalar.addi v84 c2_i32
  let c1_i32_45 : BitVec 32 := 1#32
  let arg29 : BitVec 32 := Scf.iv v151 c1_i32_45 k0_t3
  let c256_i32_80 : BitVec 32 := 256#32
  let v235 : BitVec 32 := Scalar.muli arg29 c256_i32_80
  v235
def k0_off4 (i : grid0.Coords) (v48 : BitVec 32) (k0_t3 : Fin (k0_t3_loop i v48).trips) : Fin 2 → Nat :=
  let c0_81 : Index := 0#32
  let arg0 : BitVec 32 := BitVec.ofNat 32 (i 0).val
  let c512_i32 : BitVec 32 := 512#32
  let v3 : BitVec 32 := Scalar.muli arg0 c512_i32
  let c0_i32_24 : BitVec 32 := 0#32
  let v69 : BitVec 1 := Scalar.cmpi .sgt v3 c0_i32_24
  let v70 : BitVec 32 := Scalar.extui v69
  let c0_i32_25 : BitVec 32 := 0#32
  let v71 : BitVec 1 := Scalar.cmpi .slt v3 c0_i32_25
  let v72 : BitVec 32 := Scalar.extui v71
  let v73 : BitVec 32 := Scalar.subi v70 v72
  let c256_i32_23 : BitVec 32 := 256#32
  let c0_i32_26 : BitVec 32 := 0#32
  let v74 : BitVec 1 := Scalar.cmpi .sgt c256_i32_23 c0_i32_26
  let v75 : BitVec 32 := Scalar.extui v74
  let c0_i32_27 : BitVec 32 := 0#32
  let v76 : BitVec 1 := Scalar.cmpi .slt c256_i32_23 c0_i32_27
  let v77 : BitVec 32 := Scalar.extui v76
  let v78 : BitVec 32 := Scalar.subi v75 v77
  let v79 : BitVec 1 := Scalar.cmpi .ne v73 v78
  let v80 : BitVec 32 := Scalar.remsi v3 c256_i32_23
  let c0_i32_28 : BitVec 32 := 0#32
  let v81 : BitVec 1 := Scalar.cmpi .ne v80 c0_i32_28
  let v82 : BitVec 1 := Scalar.andi v79 v81
  let v68 : BitVec 32 := Scalar.divsi v3 c256_i32_23
  let c1_i32_29 : BitVec 32 := 1#32
  let v83 : BitVec 32 := Scalar.subi v68 c1_i32_29
  let v84 : BitVec 32 := Scalar.select v82 v83 v68
  let c2_i32 : BitVec 32 := 2#32
  let v151 : BitVec 32 := Scalar.addi v84 c2_i32
  let c1_i32_45 : BitVec 32 := 1#32
  let arg29 : BitVec 32 := Scf.iv v151 c1_i32_45 k0_t3
  let c256_i32_80 : BitVec 32 := 256#32
  let v235 : BitVec 32 := Scalar.muli arg29 c256_i32_80
  let v236 : BitVec 32 := v235
  let v237 : Index := Scalar.indexCast v236
  ![0, v237.toNat]
@[reducible] def k0_t4_loop (i : grid0.Coords) (v48 : BitVec 32) : Scf.Loop 32 :=
  let arg0 : BitVec 32 := BitVec.ofNat 32 (i 0).val
  let c512_i32 : BitVec 32 := 512#32
  let v3 : BitVec 32 := Scalar.muli arg0 c512_i32
  let c0_i32_24 : BitVec 32 := 0#32
  let v69 : BitVec 1 := Scalar.cmpi .sgt v3 c0_i32_24
  let v70 : BitVec 32 := Scalar.extui v69
  let c0_i32_25 : BitVec 32 := 0#32
  let v71 : BitVec 1 := Scalar.cmpi .slt v3 c0_i32_25
  let v72 : BitVec 32 := Scalar.extui v71
  let v73 : BitVec 32 := Scalar.subi v70 v72
  let c256_i32_23 : BitVec 32 := 256#32
  let c0_i32_26 : BitVec 32 := 0#32
  let v74 : BitVec 1 := Scalar.cmpi .sgt c256_i32_23 c0_i32_26
  let v75 : BitVec 32 := Scalar.extui v74
  let c0_i32_27 : BitVec 32 := 0#32
  let v76 : BitVec 1 := Scalar.cmpi .slt c256_i32_23 c0_i32_27
  let v77 : BitVec 32 := Scalar.extui v76
  let v78 : BitVec 32 := Scalar.subi v75 v77
  let v79 : BitVec 1 := Scalar.cmpi .ne v73 v78
  let v80 : BitVec 32 := Scalar.remsi v3 c256_i32_23
  let c0_i32_28 : BitVec 32 := 0#32
  let v81 : BitVec 1 := Scalar.cmpi .ne v80 c0_i32_28
  let v82 : BitVec 1 := Scalar.andi v79 v81
  let v68 : BitVec 32 := Scalar.divsi v3 c256_i32_23
  let c1_i32_29 : BitVec 32 := 1#32
  let v83 : BitVec 32 := Scalar.subi v68 c1_i32_29
  let v84 : BitVec 32 := Scalar.select v82 v83 v68
  let c2_i32 : BitVec 32 := 2#32
  let v151 : BitVec 32 := Scalar.addi v84 c2_i32
  let c256_i32_14 : BitVec 32 := 256#32
  let v49 : BitVec 32 := Scalar.addi v48 c256_i32_14
  let c1_i32_15 : BitVec 32 := 1#32
  let v50 : BitVec 32 := Scalar.subi v49 c1_i32_15
  let c0_i32_17 : BitVec 32 := 0#32
  let v52 : BitVec 1 := Scalar.cmpi .sgt v50 c0_i32_17
  let v53 : BitVec 32 := Scalar.extui v52
  let c0_i32_18 : BitVec 32 := 0#32
  let v54 : BitVec 1 := Scalar.cmpi .slt v50 c0_i32_18
  let v55 : BitVec 32 := Scalar.extui v54
  let v56 : BitVec 32 := Scalar.subi v53 v55
  let c256_i32_16 : BitVec 32 := 256#32
  let c0_i32_19 : BitVec 32 := 0#32
  let v57 : BitVec 1 := Scalar.cmpi .sgt c256_i32_16 c0_i32_19
  let v58 : BitVec 32 := Scalar.extui v57
  let c0_i32_20 : BitVec 32 := 0#32
  let v59 : BitVec 1 := Scalar.cmpi .slt c256_i32_16 c0_i32_20
  let v60 : BitVec 32 := Scalar.extui v59
  let v61 : BitVec 32 := Scalar.subi v58 v60
  let v62 : BitVec 1 := Scalar.cmpi .ne v56 v61
  let v63 : BitVec 32 := Scalar.remsi v50 c256_i32_16
  let c0_i32_21 : BitVec 32 := 0#32
  let v64 : BitVec 1 := Scalar.cmpi .ne v63 c0_i32_21
  let v65 : BitVec 1 := Scalar.andi v62 v64
  let v51 : BitVec 32 := Scalar.divsi v50 c256_i32_16
  let c1_i32_22 : BitVec 32 := 1#32
  let v66 : BitVec 32 := Scalar.subi v51 c1_i32_22
  let v67 : BitVec 32 := Scalar.select v65 v66 v51
  let v152 : BitVec 32 := Scalar.subi v67 v151
  let c1_i32_44 : BitVec 32 := 1#32
  let v154 : BitVec 32 := Scalar.divsi v152 c1_i32_44
  let v155 : BitVec 32 := Scalar.muli v154 c1_i32_44
  let v156 : BitVec 32 := Scalar.addi v151 v155
  let v153 : BitVec 32 := Scalar.addi v151 v152
  let c1_i32_46 : BitVec 32 := 1#32
  ⟨v156, v153, c1_i32_46⟩
def k0_mult6 (i : grid0.Coords) (v48 : BitVec 32) (k0_t4 : Fin (k0_t4_loop i v48).trips) : BitVec 32 :=
  let arg0 : BitVec 32 := BitVec.ofNat 32 (i 0).val
  let c512_i32 : BitVec 32 := 512#32
  let v3 : BitVec 32 := Scalar.muli arg0 c512_i32
  let c0_i32_24 : BitVec 32 := 0#32
  let v69 : BitVec 1 := Scalar.cmpi .sgt v3 c0_i32_24
  let v70 : BitVec 32 := Scalar.extui v69
  let c0_i32_25 : BitVec 32 := 0#32
  let v71 : BitVec 1 := Scalar.cmpi .slt v3 c0_i32_25
  let v72 : BitVec 32 := Scalar.extui v71
  let v73 : BitVec 32 := Scalar.subi v70 v72
  let c256_i32_23 : BitVec 32 := 256#32
  let c0_i32_26 : BitVec 32 := 0#32
  let v74 : BitVec 1 := Scalar.cmpi .sgt c256_i32_23 c0_i32_26
  let v75 : BitVec 32 := Scalar.extui v74
  let c0_i32_27 : BitVec 32 := 0#32
  let v76 : BitVec 1 := Scalar.cmpi .slt c256_i32_23 c0_i32_27
  let v77 : BitVec 32 := Scalar.extui v76
  let v78 : BitVec 32 := Scalar.subi v75 v77
  let v79 : BitVec 1 := Scalar.cmpi .ne v73 v78
  let v80 : BitVec 32 := Scalar.remsi v3 c256_i32_23
  let c0_i32_28 : BitVec 32 := 0#32
  let v81 : BitVec 1 := Scalar.cmpi .ne v80 c0_i32_28
  let v82 : BitVec 1 := Scalar.andi v79 v81
  let v68 : BitVec 32 := Scalar.divsi v3 c256_i32_23
  let c1_i32_29 : BitVec 32 := 1#32
  let v83 : BitVec 32 := Scalar.subi v68 c1_i32_29
  let v84 : BitVec 32 := Scalar.select v82 v83 v68
  let c2_i32 : BitVec 32 := 2#32
  let v151 : BitVec 32 := Scalar.addi v84 c2_i32
  let c256_i32_14 : BitVec 32 := 256#32
  let v49 : BitVec 32 := Scalar.addi v48 c256_i32_14
  let c1_i32_15 : BitVec 32 := 1#32
  let v50 : BitVec 32 := Scalar.subi v49 c1_i32_15
  let c0_i32_17 : BitVec 32 := 0#32
  let v52 : BitVec 1 := Scalar.cmpi .sgt v50 c0_i32_17
  let v53 : BitVec 32 := Scalar.extui v52
  let c0_i32_18 : BitVec 32 := 0#32
  let v54 : BitVec 1 := Scalar.cmpi .slt v50 c0_i32_18
  let v55 : BitVec 32 := Scalar.extui v54
  let v56 : BitVec 32 := Scalar.subi v53 v55
  let c256_i32_16 : BitVec 32 := 256#32
  let c0_i32_19 : BitVec 32 := 0#32
  let v57 : BitVec 1 := Scalar.cmpi .sgt c256_i32_16 c0_i32_19
  let v58 : BitVec 32 := Scalar.extui v57
  let c0_i32_20 : BitVec 32 := 0#32
  let v59 : BitVec 1 := Scalar.cmpi .slt c256_i32_16 c0_i32_20
  let v60 : BitVec 32 := Scalar.extui v59
  let v61 : BitVec 32 := Scalar.subi v58 v60
  let v62 : BitVec 1 := Scalar.cmpi .ne v56 v61
  let v63 : BitVec 32 := Scalar.remsi v50 c256_i32_16
  let c0_i32_21 : BitVec 32 := 0#32
  let v64 : BitVec 1 := Scalar.cmpi .ne v63 c0_i32_21
  let v65 : BitVec 1 := Scalar.andi v62 v64
  let v51 : BitVec 32 := Scalar.divsi v50 c256_i32_16
  let c1_i32_22 : BitVec 32 := 1#32
  let v66 : BitVec 32 := Scalar.subi v51 c1_i32_22
  let v67 : BitVec 32 := Scalar.select v65 v66 v51
  let v152 : BitVec 32 := Scalar.subi v67 v151
  let c1_i32_44 : BitVec 32 := 1#32
  let v154 : BitVec 32 := Scalar.divsi v152 c1_i32_44
  let v155 : BitVec 32 := Scalar.muli v154 c1_i32_44
  let v156 : BitVec 32 := Scalar.addi v151 v155
  let c1_i32_46 : BitVec 32 := 1#32
  let arg29 : BitVec 32 := Scf.iv v156 c1_i32_46 k0_t4
  let c256_i32_80 : BitVec 32 := 256#32
  let v235 : BitVec 32 := Scalar.muli arg29 c256_i32_80
  v235
def k0_off5 (i : grid0.Coords) (v48 : BitVec 32) (k0_t4 : Fin (k0_t4_loop i v48).trips) : Fin 2 → Nat :=
  let c0_81 : Index := 0#32
  let arg0 : BitVec 32 := BitVec.ofNat 32 (i 0).val
  let c512_i32 : BitVec 32 := 512#32
  let v3 : BitVec 32 := Scalar.muli arg0 c512_i32
  let c0_i32_24 : BitVec 32 := 0#32
  let v69 : BitVec 1 := Scalar.cmpi .sgt v3 c0_i32_24
  let v70 : BitVec 32 := Scalar.extui v69
  let c0_i32_25 : BitVec 32 := 0#32
  let v71 : BitVec 1 := Scalar.cmpi .slt v3 c0_i32_25
  let v72 : BitVec 32 := Scalar.extui v71
  let v73 : BitVec 32 := Scalar.subi v70 v72
  let c256_i32_23 : BitVec 32 := 256#32
  let c0_i32_26 : BitVec 32 := 0#32
  let v74 : BitVec 1 := Scalar.cmpi .sgt c256_i32_23 c0_i32_26
  let v75 : BitVec 32 := Scalar.extui v74
  let c0_i32_27 : BitVec 32 := 0#32
  let v76 : BitVec 1 := Scalar.cmpi .slt c256_i32_23 c0_i32_27
  let v77 : BitVec 32 := Scalar.extui v76
  let v78 : BitVec 32 := Scalar.subi v75 v77
  let v79 : BitVec 1 := Scalar.cmpi .ne v73 v78
  let v80 : BitVec 32 := Scalar.remsi v3 c256_i32_23
  let c0_i32_28 : BitVec 32 := 0#32
  let v81 : BitVec 1 := Scalar.cmpi .ne v80 c0_i32_28
  let v82 : BitVec 1 := Scalar.andi v79 v81
  let v68 : BitVec 32 := Scalar.divsi v3 c256_i32_23
  let c1_i32_29 : BitVec 32 := 1#32
  let v83 : BitVec 32 := Scalar.subi v68 c1_i32_29
  let v84 : BitVec 32 := Scalar.select v82 v83 v68
  let c2_i32 : BitVec 32 := 2#32
  let v151 : BitVec 32 := Scalar.addi v84 c2_i32
  let c256_i32_14 : BitVec 32 := 256#32
  let v49 : BitVec 32 := Scalar.addi v48 c256_i32_14
  let c1_i32_15 : BitVec 32 := 1#32
  let v50 : BitVec 32 := Scalar.subi v49 c1_i32_15
  let c0_i32_17 : BitVec 32 := 0#32
  let v52 : BitVec 1 := Scalar.cmpi .sgt v50 c0_i32_17
  let v53 : BitVec 32 := Scalar.extui v52
  let c0_i32_18 : BitVec 32 := 0#32
  let v54 : BitVec 1 := Scalar.cmpi .slt v50 c0_i32_18
  let v55 : BitVec 32 := Scalar.extui v54
  let v56 : BitVec 32 := Scalar.subi v53 v55
  let c256_i32_16 : BitVec 32 := 256#32
  let c0_i32_19 : BitVec 32 := 0#32
  let v57 : BitVec 1 := Scalar.cmpi .sgt c256_i32_16 c0_i32_19
  let v58 : BitVec 32 := Scalar.extui v57
  let c0_i32_20 : BitVec 32 := 0#32
  let v59 : BitVec 1 := Scalar.cmpi .slt c256_i32_16 c0_i32_20
  let v60 : BitVec 32 := Scalar.extui v59
  let v61 : BitVec 32 := Scalar.subi v58 v60
  let v62 : BitVec 1 := Scalar.cmpi .ne v56 v61
  let v63 : BitVec 32 := Scalar.remsi v50 c256_i32_16
  let c0_i32_21 : BitVec 32 := 0#32
  let v64 : BitVec 1 := Scalar.cmpi .ne v63 c0_i32_21
  let v65 : BitVec 1 := Scalar.andi v62 v64
  let v51 : BitVec 32 := Scalar.divsi v50 c256_i32_16
  let c1_i32_22 : BitVec 32 := 1#32
  let v66 : BitVec 32 := Scalar.subi v51 c1_i32_22
  let v67 : BitVec 32 := Scalar.select v65 v66 v51
  let v152 : BitVec 32 := Scalar.subi v67 v151
  let c1_i32_44 : BitVec 32 := 1#32
  let v154 : BitVec 32 := Scalar.divsi v152 c1_i32_44
  let v155 : BitVec 32 := Scalar.muli v154 c1_i32_44
  let v156 : BitVec 32 := Scalar.addi v151 v155
  let c1_i32_46 : BitVec 32 := 1#32
  let arg29 : BitVec 32 := Scf.iv v156 c1_i32_46 k0_t4
  let c256_i32_80 : BitVec 32 := 256#32
  let v235 : BitVec 32 := Scalar.muli arg29 c256_i32_80
  let v236 : BitVec 32 := v235
  let v237 : Index := Scalar.indexCast v236
  ![0, v237.toNat]

def k0_chk2 (i : grid0.Coords) (v48 : BitVec 32) : Prop :=
  ((k0_t3_loop i v48).OK) ∧
  (∀ k0_t3 : Fin (k0_t3_loop i v48).trips, 256 ∣ (k0_mult5 i v48 k0_t3).toNat) ∧
  (∀ k0_t3 : Fin (k0_t3_loop i v48).trips, ∀ a, (k0_off4 i v48 k0_t3) a + S1x256.size a ≤ S1x16384.size a) ∧
  ((k0_t4_loop i v48).OK) ∧
  (∀ k0_t4 : Fin (k0_t4_loop i v48).trips, 256 ∣ (k0_mult6 i v48 k0_t4).toNat) ∧
  (∀ k0_t4 : Fin (k0_t4_loop i v48).trips, ∀ a, (k0_off5 i v48 k0_t4) a + S1x256.size a ≤ S1x16384.size a)
theorem k0_t3_ok : ∀ (i : grid0.Coords) (v48 : BitVec 32) (k0_hw2 : k0_chk2 i v48), (k0_t3_loop i v48).OK := fun i v48 k0_hw2 => k0_hw2.1
theorem k0_mult5_dvd : ∀ (i : grid0.Coords) (v48 : BitVec 32) (k0_hw2 : k0_chk2 i v48) (k0_t3 : Fin (k0_t3_loop i v48).trips), 256 ∣ (k0_mult5 i v48 k0_t3).toNat := fun i v48 k0_hw2 k0_t3 => k0_hw2.2.1 k0_t3
theorem k0_off4_inb : ∀ (i : grid0.Coords) (v48 : BitVec 32) (k0_hw2 : k0_chk2 i v48) (k0_t3 : Fin (k0_t3_loop i v48).trips), ∀ a, (k0_off4 i v48 k0_t3) a + S1x256.size a ≤ S1x16384.size a := fun i v48 k0_hw2 k0_t3 => k0_hw2.2.2.1 k0_t3
theorem k0_t4_ok : ∀ (i : grid0.Coords) (v48 : BitVec 32) (k0_hw2 : k0_chk2 i v48), (k0_t4_loop i v48).OK := fun i v48 k0_hw2 => k0_hw2.2.2.2.1
theorem k0_mult6_dvd : ∀ (i : grid0.Coords) (v48 : BitVec 32) (k0_hw2 : k0_chk2 i v48) (k0_t4 : Fin (k0_t4_loop i v48).trips), 256 ∣ (k0_mult6 i v48 k0_t4).toNat := fun i v48 k0_hw2 k0_t4 => k0_hw2.2.2.2.2.1 k0_t4
theorem k0_off5_inb : ∀ (i : grid0.Coords) (v48 : BitVec 32) (k0_hw2 : k0_chk2 i v48) (k0_t4 : Fin (k0_t4_loop i v48).trips), ∀ a, (k0_off5 i v48 k0_t4) a + S1x256.size a ≤ S1x16384.size a := fun i v48 k0_hw2 k0_t4 => k0_hw2.2.2.2.2.2 k0_t4

def k0_cond4 (i : grid0.Coords) : BitVec 1 :=
  let arg0 : BitVec 32 := BitVec.ofNat 32 (i 0).val
  let c31_i32 : BitVec 32 := 31#32
  let v232 : BitVec 1 := Scalar.cmpi .eq arg0 c31_i32
  let v233 : BitVec 32 := Scalar.extui v232
  let c0_i32_79 : BitVec 32 := 0#32
  let v234 : BitVec 1 := Scalar.cmpi .ne v233 c0_i32_79
  v234

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1x16384 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x16384 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x2048 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S512x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S512x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S513x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x512 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S512x512 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x512 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1025x768 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S1x768 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S768x512 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S1x512 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S64x512 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]
-- ==== ReferenceIdeal.lean ====
abbrev S16384x512 : Shape := ⟨2, ![16384, 512]⟩
abbrev S16384 : Shape := ⟨1, ![16384]⟩
abbrev S512x1 : Shape := ⟨2, ![512, 1]⟩
abbrev S1 : Shape := ⟨1, ![1]⟩
abbrev S512x512 : Shape := ⟨2, ![512, 512]⟩
abbrev S512 : Shape := ⟨1, ![512]⟩
abbrev S513x512 : Shape := ⟨2, ![513, 512]⟩
abbrev S1025x768 : Shape := ⟨2, ![1025, 768]⟩
abbrev S768 : Shape := ⟨1, ![768]⟩
abbrev S768x512 : Shape := ⟨2, ![768, 512]⟩
abbrev S_ : Shape := ⟨0, ![]⟩
abbrev S64 : Shape := ⟨1, ![64]⟩
abbrev S16384x1 : Shape := ⟨2, ![16384, 1]⟩
abbrev S65 : Shape := ⟨1, ![65]⟩
abbrev S1x1 : Shape := ⟨2, ![1, 1]⟩
abbrev S1x513 : Shape := ⟨2, ![1, 513]⟩
abbrev S16384x513 : Shape := ⟨2, ![16384, 513]⟩
abbrev S1x512 : Shape := ⟨2, ![1, 512]⟩
abbrev S64x512 : Shape := ⟨2, ![64, 512]⟩
abbrev S64x1 : Shape := ⟨2, ![64, 1]⟩
abbrev S64x513 : Shape := ⟨2, ![64, 513]⟩
abbrev S64x1025 : Shape := ⟨2, ![64, 1025]⟩
abbrev S64x768 : Shape := ⟨2, ![64, 768]⟩
abbrev S1x768 : Shape := ⟨2, ![1, 768]⟩

abbrev nBuf : Space → Nat
  | .hbm => 195
  | .vmem => 0
  | .smem => 0
  | _ => 0

abbrev hbmTy0_0 (i : Nat) : BufTy := match i % 128 with
  | 0 => ⟨S16384x512, .f32⟩
  | 1 => ⟨S16384, .i32⟩
  | 2 => ⟨S512x1, .f32⟩
  | 3 => ⟨S1, .f32⟩
  | 4 => ⟨S512x512, .f32⟩
  | 5 => ⟨S512, .f32⟩
  | 6 => ⟨S512, .f32⟩
  | 7 => ⟨S512, .f32⟩
  | 8 => ⟨S512x512, .f32⟩
  | 9 => ⟨S512, .f32⟩
  | 10 => ⟨S513x512, .f32⟩
  | 11 => ⟨S512, .f32⟩
  | 12 => ⟨S512, .f32⟩
  | 13 => ⟨S512, .f32⟩
  | 14 => ⟨S512x512, .f32⟩
  | 15 => ⟨S512, .f32⟩
  | 16 => ⟨S1025x768, .f32⟩
  | 17 => ⟨S768, .f32⟩
  | 18 => ⟨S768x512, .f32⟩
  | 19 => ⟨S512, .f32⟩
  | 20 => ⟨S_, .f32⟩
  | 21 => ⟨S16384, .f32⟩
  | 22 => ⟨S_, .f32⟩
  | 23 => ⟨S64, .f32⟩
  | 24 => ⟨S16384x1, .i32⟩
  | 25 => ⟨S64, .f32⟩
  | 26 => ⟨S64, .i32⟩
  | 27 => ⟨S_, .i32⟩
  | 28 => ⟨S1, .i32⟩
  | 29 => ⟨S_, .i32⟩
  | 30 => ⟨S_, .i32⟩
  | 31 => ⟨S64, .i32⟩
  | 32 => ⟨S65, .i32⟩
  | 33 => ⟨S16384x1, .f32⟩
  | 34 => ⟨S1x1, .f32⟩
  | 35 => ⟨S16384x1, .f32⟩
  | 36 => ⟨S16384x1, .f32⟩
  | 37 => ⟨S16384, .f32⟩
  | 38 => ⟨S16384, .i32⟩
  | 39 => ⟨S16384, .i32⟩
  | 40 => ⟨S16384, .f32⟩
  | 41 => ⟨S16384, .i32⟩
  | 42 => ⟨S_, .i32⟩
  | 43 => ⟨S16384, .i32⟩
  | 44 => ⟨S16384, .i1⟩
  | 45 => ⟨S_, .i32⟩
  | 46 => ⟨S16384, .i32⟩
  | 47 => ⟨S16384, .i32⟩
  | 48 => ⟨S16384, .i32⟩
  | 49 => ⟨S16384x1, .i32⟩
  | 50 => ⟨S16384x512, .f32⟩
  | 51 => ⟨S16384, .i32⟩
  | 52 => ⟨S_, .i32⟩
  | 53 => ⟨S16384, .i32⟩
  | 54 => ⟨S16384, .i1⟩
  | 55 => ⟨S_, .i32⟩
  | 56 => ⟨S16384, .i32⟩
  | 57 => ⟨S16384, .i32⟩
  | 58 => ⟨S16384, .i32⟩
  | 59 => ⟨S16384x1, .i32⟩
  | 60 => ⟨S16384, .i32⟩
  | 61 => ⟨S16384, .i32⟩
  | 62 => ⟨S16384x1, .i32⟩
  | 63 => ⟨S1x513, .i32⟩
  | 64 => ⟨S16384x513, .i32⟩
  | 65 => ⟨S16384x513, .i32⟩
  | 66 => ⟨S16384x513, .i1⟩
  | 67 => ⟨S16384x513, .f32⟩
  | 68 => ⟨S16384x512, .f32⟩
  | 69 => ⟨S1x512, .f32⟩
  | 70 => ⟨S16384x512, .f32⟩
  | 71 => ⟨S16384x512, .f32⟩
  | 72 => ⟨S_, .f32⟩
  | 73 => ⟨S16384, .f32⟩
  | 74 => ⟨S16384x1, .f32⟩
  | 75 => ⟨S_, .f32⟩
  | 76 => ⟨S16384x1, .f32⟩
  | 77 => ⟨S16384x1, .f32⟩
  | 78 => ⟨S_, .i32⟩
  | 79 => ⟨S_, .f32⟩
  | 80 => ⟨S16384, .f32⟩
  | 81 => ⟨S16384x1, .f32⟩
  | 82 => ⟨S_, .f32⟩
  | 83 => ⟨S16384x1, .f32⟩
  | 84 => ⟨S16384x1, .f32⟩
  | 85 => ⟨S16384x512, .f32⟩
  | 86 => ⟨S16384x512, .f32⟩
  | 87 => ⟨S16384x512, .f32⟩
  | 88 => ⟨S_, .f32⟩
  | 89 => ⟨S_, .f32⟩
  | 90 => ⟨S_, .f32⟩
  | 91 => ⟨S_, .f32⟩
  | 92 => ⟨S16384, .f32⟩
  | 93 => ⟨S16384x1, .f32⟩
  | 94 => ⟨S16384x1, .f32⟩
  | 95 => ⟨S16384x1, .f32⟩
  | 96 => ⟨S_, .f32⟩
  | 97 => ⟨S_, .i1⟩
  | 98 => ⟨S_, .f32⟩
  | 99 => ⟨S_, .f32⟩
  | 100 => ⟨S16384x1, .f32⟩
  | 101 => ⟨S16384x1, .f32⟩
  | 102 => ⟨S16384x512, .f32⟩
  | 103 => ⟨S16384x512, .f32⟩
  | 104 => ⟨S_, .f32⟩
  | 105 => ⟨S16384x1, .f32⟩
  | 106 => ⟨S16384x1, .f32⟩
  | 107 => ⟨S16384x1, .f32⟩
  | 108 => ⟨S16384x512, .f32⟩
  | 109 => ⟨S16384x512, .f32⟩
  | 110 => ⟨S1x512, .f32⟩
  | 111 => ⟨S16384x512, .f32⟩
  | 112 => ⟨S16384x512, .f32⟩
  | 113 => ⟨S1x512, .f32⟩
  | 114 => ⟨S16384x512, .f32⟩
  | 115 => ⟨S16384x512, .f32⟩
  | 116 => ⟨S16384x512, .f32⟩
  | 117 => ⟨S16384x512, .f32⟩
  | 118 => ⟨S1x512, .f32⟩
  | 119 => ⟨S16384x512, .f32⟩
  | 120 => ⟨S16384x512, .f32⟩
  | 121 => ⟨S16384x512, .f32⟩
  | 122 => ⟨S1x512, .f32⟩
  | 123 => ⟨S16384x512, .f32⟩
  | 124 => ⟨S16384x512, .f32⟩
  | 125 => ⟨S_, .f32⟩
  | 126 => ⟨S16384, .f32⟩
  | 127 => ⟨S16384x1, .f32⟩
  | _ => ⟨S16384x512, .f32⟩

abbrev hbmTy0_1 (i : Nat) : BufTy := match i % 128 with
  | 0 => ⟨S_, .f32⟩
  | 1 => ⟨S16384x1, .f32⟩
  | 2 => ⟨S16384x1, .f32⟩
  | 3 => ⟨S_, .i32⟩
  | 4 => ⟨S_, .f32⟩
  | 5 => ⟨S16384, .f32⟩
  | 6 => ⟨S16384x1, .f32⟩
  | 7 => ⟨S_, .f32⟩
  | 8 => ⟨S16384x1, .f32⟩
  | 9 => ⟨S16384x1, .f32⟩
  | 10 => ⟨S16384x512, .f32⟩
  | 11 => ⟨S16384x512, .f32⟩
  | 12 => ⟨S16384x512, .f32⟩
  | 13 => ⟨S_, .f32⟩
  | 14 => ⟨S_, .f32⟩
  | 15 => ⟨S_, .f32⟩
  | 16 => ⟨S_, .f32⟩
  | 17 => ⟨S16384, .f32⟩
  | 18 => ⟨S16384x1, .f32⟩
  | 19 => ⟨S16384x1, .f32⟩
  | 20 => ⟨S16384x1, .f32⟩
  | 21 => ⟨S_, .f32⟩
  | 22 => ⟨S_, .i1⟩
  | 23 => ⟨S_, .f32⟩
  | 24 => ⟨S_, .f32⟩
  | 25 => ⟨S16384x1, .f32⟩
  | 26 => ⟨S16384x1, .f32⟩
  | 27 => ⟨S16384x512, .f32⟩
  | 28 => ⟨S16384x512, .f32⟩
  | 29 => ⟨S_, .f32⟩
  | 30 => ⟨S16384x1, .f32⟩
  | 31 => ⟨S16384x1, .f32⟩
  | 32 => ⟨S16384x1, .f32⟩
  | 33 => ⟨S16384x512, .f32⟩
  | 34 => ⟨S16384x512, .f32⟩
  | 35 => ⟨S1x512, .f32⟩
  | 36 => ⟨S16384x512, .f32⟩
  | 37 => ⟨S16384x512, .f32⟩
  | 38 => ⟨S1x512, .f32⟩
  | 39 => ⟨S16384x512, .f32⟩
  | 40 => ⟨S16384x512, .f32⟩
  | 41 => ⟨S16384x512, .f32⟩
  | 42 => ⟨S16384x512, .f32⟩
  | 43 => ⟨S1x512, .f32⟩
  | 44 => ⟨S16384x512, .f32⟩
  | 45 => ⟨S16384x512, .f32⟩
  | 46 => ⟨S16384x512, .f32⟩
  | 47 => ⟨S_, .f32⟩
  | 48 => ⟨S64x512, .f32⟩
  | 49 => ⟨S16384x1, .i32⟩
  | 50 => ⟨S64x512, .f32⟩
  | 51 => ⟨S64x1, .i32⟩
  | 52 => ⟨S1x513, .i32⟩
  | 53 => ⟨S64x513, .i32⟩
  | 54 => ⟨S64x513, .i32⟩
  | 55 => ⟨S64x513, .i1⟩
  | 56 => ⟨S64x513, .f32⟩
  | 57 => ⟨S64x1025, .f32⟩
  | 58 => ⟨S64x768, .f32⟩
  | 59 => ⟨S1x768, .f32⟩
  | 60 => ⟨S64x768, .f32⟩
  | 61 => ⟨S64x768, .f32⟩
  | 62 => ⟨S64x768, .f32⟩
  | 63 => ⟨S64x512, .f32⟩
  | 64 => ⟨S1x512, .f32⟩
  | 65 => ⟨S64x512, .f32⟩
  | 66 => ⟨S64x512, .f32⟩
  | _ => ⟨S16384x512, .f32⟩

abbrev hbmTy (i : Nat) : BufTy := match i / 128 with
  | 0 => hbmTy0_0 i
  | 1 => hbmTy0_1 i
  | _ => ⟨S16384x512, .f32⟩

abbrev bufTy : (tb : Table) → Fin (tcTables nBuf tb) → BufTy
  | .hbm, ⟨i, _⟩ => hbmTy i
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_cst : Ref sig .tc := ⟨.hbm, 20, rfl⟩
abbrev main_v0 : Ref sig .tc := ⟨.hbm, 21, rfl⟩
abbrev main_cst_0 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_c : Ref sig .tc := ⟨.hbm, 27, rfl⟩
abbrev main_v5 : Ref sig .tc := ⟨.hbm, 28, rfl⟩
abbrev main_call0_call0_c : Ref sig .tc := ⟨.hbm, 29, rfl⟩
abbrev main_call0_call0_v0 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_call1_v0 : Ref sig .tc := ⟨.hbm, 38, rfl⟩
abbrev main_call1_v1_0 : Ref sig .tc := ⟨.hbm, 39, rfl⟩
abbrev main_call1_v1_1 : Ref sig .tc := ⟨.hbm, 40, rfl⟩
abbrev main_v13 : Ref sig .tc := ⟨.hbm, 41, rfl⟩
abbrev main_c_1 : Ref sig .tc := ⟨.hbm, 42, rfl⟩
abbrev main_v14 : Ref sig .tc := ⟨.hbm, 43, rfl⟩
abbrev main_v15 : Ref sig .tc := ⟨.hbm, 44, rfl⟩
abbrev main_c_2 : Ref sig .tc := ⟨.hbm, 45, rfl⟩
abbrev main_v16 : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_c_3 : Ref sig .tc := ⟨.hbm, 52, rfl⟩
abbrev main_v22 : Ref sig .tc := ⟨.hbm, 53, rfl⟩
abbrev main_v23 : Ref sig .tc := ⟨.hbm, 54, rfl⟩
abbrev main_c_4 : Ref sig .tc := ⟨.hbm, 55, rfl⟩
abbrev main_v24 : Ref sig .tc := ⟨.hbm, 56, rfl⟩
abbrev main_v25 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_call2_v0 : Ref sig .tc := ⟨.hbm, 62, rfl⟩
abbrev main_call2_v1 : Ref sig .tc := ⟨.hbm, 63, rfl⟩
abbrev main_call2_v2 : Ref sig .tc := ⟨.hbm, 64, rfl⟩
abbrev main_call2_v3 : Ref sig .tc := ⟨.hbm, 65, rfl⟩
abbrev main_call2_v4 : Ref sig .tc := ⟨.hbm, 66, rfl⟩
abbrev main_v30 : Ref sig .tc := ⟨.hbm, 67, rfl⟩
abbrev main_v31 : Ref sig .tc := ⟨.hbm, 68, rfl⟩
abbrev main_v32 : Ref sig .tc := ⟨.hbm, 69, rfl⟩
abbrev main_v33 : Ref sig .tc := ⟨.hbm, 70, rfl⟩
abbrev main_v34 : Ref sig .tc := ⟨.hbm, 71, rfl⟩
abbrev main_cst_5 : Ref sig .tc := ⟨.hbm, 72, rfl⟩
abbrev main_v35 : Ref sig .tc := ⟨.hbm, 73, rfl⟩
abbrev main_v36 : Ref sig .tc := ⟨.hbm, 74, rfl⟩
abbrev main_cst_6 : Ref sig .tc := ⟨.hbm, 75, rfl⟩
abbrev main_v37 : Ref sig .tc := ⟨.hbm, 76, rfl⟩
abbrev main_v38 : Ref sig .tc := ⟨.hbm, 77, rfl⟩
abbrev main_c_7 : Ref sig .tc := ⟨.hbm, 78, rfl⟩
abbrev main_call3_cst : Ref sig .tc := ⟨.hbm, 79, rfl⟩
abbrev main_call3_v0 : Ref sig .tc := ⟨.hbm, 80, rfl⟩
abbrev main_call3_v1 : Ref sig .tc := ⟨.hbm, 81, rfl⟩
abbrev main_call3_cst_0 : Ref sig .tc := ⟨.hbm, 82, rfl⟩
abbrev main_call3_v2 : Ref sig .tc := ⟨.hbm, 83, rfl⟩
abbrev main_call3_v3 : Ref sig .tc := ⟨.hbm, 84, rfl⟩
abbrev main_call3_v4 : Ref sig .tc := ⟨.hbm, 85, rfl⟩
abbrev main_call3_v5 : Ref sig .tc := ⟨.hbm, 86, rfl⟩
abbrev main_call3_v6 : Ref sig .tc := ⟨.hbm, 87, rfl⟩
abbrev main_call3_v7 : Ref sig .tc := ⟨.hbm, 88, rfl⟩
abbrev main_call3_cst_1 : Ref sig .tc := ⟨.hbm, 89, rfl⟩
abbrev main_call3_v8 : Ref sig .tc := ⟨.hbm, 90, rfl⟩
abbrev main_call3_cst_2 : Ref sig .tc := ⟨.hbm, 91, rfl⟩
abbrev main_call3_v9 : Ref sig .tc := ⟨.hbm, 92, rfl⟩
abbrev main_call3_v10 : Ref sig .tc := ⟨.hbm, 93, rfl⟩
abbrev main_call3_v11 : Ref sig .tc := ⟨.hbm, 94, rfl⟩
abbrev main_call3_v12 : Ref sig .tc := ⟨.hbm, 95, rfl⟩
abbrev main_call3_cst_3 : Ref sig .tc := ⟨.hbm, 96, rfl⟩
abbrev main_call3_v13 : Ref sig .tc := ⟨.hbm, 97, rfl⟩
abbrev main_call3_cst_4 : Ref sig .tc := ⟨.hbm, 98, rfl⟩
abbrev main_call3_call0_v0 : Ref sig .tc := ⟨.hbm, 99, rfl⟩
abbrev main_call3_call0_v1 : Ref sig .tc := ⟨.hbm, 100, rfl⟩
abbrev main_v39 : Ref sig .tc := ⟨.hbm, 101, rfl⟩
abbrev main_v40 : Ref sig .tc := ⟨.hbm, 102, rfl⟩
abbrev main_v41 : Ref sig .tc := ⟨.hbm, 103, rfl⟩
abbrev main_cst_8 : Ref sig .tc := ⟨.hbm, 104, rfl⟩
abbrev main_v42 : Ref sig .tc := ⟨.hbm, 105, rfl⟩
abbrev main_v43 : Ref sig .tc := ⟨.hbm, 106, rfl⟩
abbrev main_v44 : Ref sig .tc := ⟨.hbm, 107, rfl⟩
abbrev main_v45 : Ref sig .tc := ⟨.hbm, 108, rfl⟩
abbrev main_v46 : Ref sig .tc := ⟨.hbm, 109, rfl⟩
abbrev main_v47 : Ref sig .tc := ⟨.hbm, 110, rfl⟩
abbrev main_v48 : Ref sig .tc := ⟨.hbm, 111, rfl⟩
abbrev main_v49 : Ref sig .tc := ⟨.hbm, 112, rfl⟩
abbrev main_v50 : Ref sig .tc := ⟨.hbm, 113, rfl⟩
abbrev main_v51 : Ref sig .tc := ⟨.hbm, 114, rfl⟩
abbrev main_v52 : Ref sig .tc := ⟨.hbm, 115, rfl⟩
abbrev main_v53 : Ref sig .tc := ⟨.hbm, 116, rfl⟩
abbrev main_v54 : Ref sig .tc := ⟨.hbm, 117, rfl⟩
abbrev main_v55 : Ref sig .tc := ⟨.hbm, 118, rfl⟩
abbrev main_v56 : Ref sig .tc := ⟨.hbm, 119, rfl⟩
abbrev main_v57 : Ref sig .tc := ⟨.hbm, 120, rfl⟩
abbrev main_v58 : Ref sig .tc := ⟨.hbm, 121, rfl⟩
abbrev main_v59 : Ref sig .tc := ⟨.hbm, 122, rfl⟩
abbrev main_v60 : Ref sig .tc := ⟨.hbm, 123, rfl⟩
abbrev main_v61 : Ref sig .tc := ⟨.hbm, 124, rfl⟩
abbrev main_cst_9 : Ref sig .tc := ⟨.hbm, 125, rfl⟩
abbrev main_v62 : Ref sig .tc := ⟨.hbm, 126, rfl⟩
abbrev main_v63 : Ref sig .tc := ⟨.hbm, 127, rfl⟩
abbrev main_cst_10 : Ref sig .tc := ⟨.hbm, 128, rfl⟩
abbrev main_v64 : Ref sig .tc := ⟨.hbm, 129, rfl⟩
abbrev main_v65 : Ref sig .tc := ⟨.hbm, 130, rfl⟩
abbrev main_c_11 : Ref sig .tc := ⟨.hbm, 131, rfl⟩
abbrev main_call4_cst : Ref sig .tc := ⟨.hbm, 132, rfl⟩
abbrev main_call4_v0 : Ref sig .tc := ⟨.hbm, 133, rfl⟩
abbrev main_call4_v1 : Ref sig .tc := ⟨.hbm, 134, rfl⟩
abbrev main_call4_cst_0 : Ref sig .tc := ⟨.hbm, 135, rfl⟩
abbrev main_call4_v2 : Ref sig .tc := ⟨.hbm, 136, rfl⟩
abbrev main_call4_v3 : Ref sig .tc := ⟨.hbm, 137, rfl⟩
abbrev main_call4_v4 : Ref sig .tc := ⟨.hbm, 138, rfl⟩
abbrev main_call4_v5 : Ref sig .tc := ⟨.hbm, 139, rfl⟩
abbrev main_call4_v6 : Ref sig .tc := ⟨.hbm, 140, rfl⟩
abbrev main_call4_v7 : Ref sig .tc := ⟨.hbm, 141, rfl⟩
abbrev main_call4_cst_1 : Ref sig .tc := ⟨.hbm, 142, rfl⟩
abbrev main_call4_v8 : Ref sig .tc := ⟨.hbm, 143, rfl⟩
abbrev main_call4_cst_2 : Ref sig .tc := ⟨.hbm, 144, rfl⟩
abbrev main_call4_v9 : Ref sig .tc := ⟨.hbm, 145, rfl⟩
abbrev main_call4_v10 : Ref sig .tc := ⟨.hbm, 146, rfl⟩
abbrev main_call4_v11 : Ref sig .tc := ⟨.hbm, 147, rfl⟩
abbrev main_call4_v12 : Ref sig .tc := ⟨.hbm, 148, rfl⟩
abbrev main_call4_cst_3 : Ref sig .tc := ⟨.hbm, 149, rfl⟩
abbrev main_call4_v13 : Ref sig .tc := ⟨.hbm, 150, rfl⟩
abbrev main_call4_cst_4 : Ref sig .tc := ⟨.hbm, 151, rfl⟩
abbrev main_call4_call0_v0 : Ref sig .tc := ⟨.hbm, 152, rfl⟩
abbrev main_call4_call0_v1 : Ref sig .tc := ⟨.hbm, 153, rfl⟩
abbrev main_v66 : Ref sig .tc := ⟨.hbm, 154, rfl⟩
abbrev main_v67 : Ref sig .tc := ⟨.hbm, 155, rfl⟩
abbrev main_v68 : Ref sig .tc := ⟨.hbm, 156, rfl⟩
abbrev main_cst_12 : Ref sig .tc := ⟨.hbm, 157, rfl⟩
abbrev main_v69 : Ref sig .tc := ⟨.hbm, 158, rfl⟩
abbrev main_v70 : Ref sig .tc := ⟨.hbm, 159, rfl⟩
abbrev main_v71 : Ref sig .tc := ⟨.hbm, 160, rfl⟩
abbrev main_v72 : Ref sig .tc := ⟨.hbm, 161, rfl⟩
abbrev main_v73 : Ref sig .tc := ⟨.hbm, 162, rfl⟩
abbrev main_v74 : Ref sig .tc := ⟨.hbm, 163, rfl⟩
abbrev main_v75 : Ref sig .tc := ⟨.hbm, 164, rfl⟩
abbrev main_v76 : Ref sig .tc := ⟨.hbm, 165, rfl⟩
abbrev main_v77 : Ref sig .tc := ⟨.hbm, 166, rfl⟩
abbrev main_v78 : Ref sig .tc := ⟨.hbm, 167, rfl⟩
abbrev main_v79 : Ref sig .tc := ⟨.hbm, 168, rfl⟩
abbrev main_v80 : Ref sig .tc := ⟨.hbm, 169, rfl⟩
abbrev main_v81 : Ref sig .tc := ⟨.hbm, 170, rfl⟩
abbrev main_v82 : Ref sig .tc := ⟨.hbm, 171, rfl⟩
abbrev main_v83 : Ref sig .tc := ⟨.hbm, 172, rfl⟩
abbrev main_v84 : Ref sig .tc := ⟨.hbm, 173, rfl⟩
abbrev main_v85 : Ref sig .tc := ⟨.hbm, 174, rfl⟩
abbrev main_cst_13 : Ref sig .tc := ⟨.hbm, 175, rfl⟩
abbrev main_v86 : Ref sig .tc := ⟨.hbm, 176, rfl⟩
abbrev main_v87 : Ref sig .tc := ⟨.hbm, 177, rfl⟩
abbrev main_v88 : Ref sig .tc := ⟨.hbm, 178, rfl⟩
abbrev main_call5_v0 : Ref sig .tc := ⟨.hbm, 179, rfl⟩
abbrev main_call5_v1 : Ref sig .tc := ⟨.hbm, 180, rfl⟩
abbrev main_call5_v2 : Ref sig .tc := ⟨.hbm, 181, rfl⟩
abbrev main_call5_v3 : Ref sig .tc := ⟨.hbm, 182, rfl⟩
abbrev main_call5_v4 : Ref sig .tc := ⟨.hbm, 183, rfl⟩
abbrev main_v89 : Ref sig .tc := ⟨.hbm, 184, rfl⟩
abbrev main_v90 : Ref sig .tc := ⟨.hbm, 185, rfl⟩
abbrev main_v91 : Ref sig .tc := ⟨.hbm, 186, rfl⟩
abbrev main_v92 : Ref sig .tc := ⟨.hbm, 187, rfl⟩
abbrev main_v93 : Ref sig .tc := ⟨.hbm, 188, rfl⟩
abbrev main_v94 : Ref sig .tc := ⟨.hbm, 189, rfl⟩
abbrev main_v95 : Ref sig .tc := ⟨.hbm, 190, rfl⟩
abbrev main_v96 : Ref sig .tc := ⟨.hbm, 191, rfl⟩
abbrev main_v97 : Ref sig .tc := ⟨.hbm, 192, rfl⟩
abbrev main_v98 : Ref sig .tc := ⟨.hbm, 193, rfl⟩
abbrev main_v99 : Ref sig .tc := ⟨.hbm, 194, rfl⟩

abbrev nD : Nat := 1
abbrev τ : Topo := Topo.v7x

variable {F : FTy → Type} [FloatOps F]
-- ==== Proof.Words.lean ====
/- The word arithmetic of the kernel's two chunk loops: a rounded-down division by 256, the bounds of the
   loops over the chunks to the left and to the right of a block's own two chunks, and the count of a comparison. -/
module

public import Idealize.ShloMosaic.Lib.Tactic
public import Idealize.ShloMosaic.Lib.WordCmp
public import Idealize.ShloMosaic.Lib.WordSum
public import Idealize.ShloMosaic.Lib.LoopRemainder
public import Idealize.ShloMosaic.Lib.Routing.BitFacts

@[expose] public section

namespace Cert.Words

open Idealize.ShloMosaic

/-- The division by 256 rounded down, as the kernel writes it on a signed word. -/
def floorDiv (w : BitVec 32) : BitVec 32 :=
  Scalar.select
    (Scalar.andi
      (Scalar.cmpi .ne (Scalar.subi (Scalar.extui (Scalar.cmpi .sgt w 0#32)) (Scalar.extui (Scalar.cmpi .slt w 0#32)))
        (Scalar.subi (Scalar.extui (Scalar.cmpi .sgt 256#32 0#32)) (Scalar.extui (Scalar.cmpi .slt 256#32 0#32))))
      (Scalar.cmpi .ne (Scalar.remsi w 256#32) 0#32))
    (Scalar.subi (Scalar.divsi w 256#32) 1#32) (Scalar.divsi w 256#32)

theorem floorDiv_ofNat {n : Nat} (hn : n < 2 ^ 31) : floorDiv (BitVec.ofNat 32 n) = BitVec.ofNat 32 (n / 256) := by
  rcases Nat.eq_zero_or_pos n with rfl | hp
  · decide
  · have hd : Scalar.divsi (BitVec.ofNat 32 n) 256#32 = BitVec.ofNat 32 (n / 256) := by
      have hc : ¬ IntOp.SDivCorner (BitVec.ofNat 32 n) 256#32 := by
        unfold IntOp.SDivCorner
        rintro (h | ⟨-, h⟩)
        · exact absurd h (by decide)
        · exact absurd h (by decide)
      show IntOp.divsi _ _ _ = _
      unfold IntOp.divsi
      rw [if_neg hc]
      exact Routing.sdiv_ofNat32 hn (by decide)
    have hi : (BitVec.ofNat 32 n).toInt = n := by
      rw [BitVec.toInt_eq_toNat_bmod, BitVec.toNat_ofNat, Int.bmod_def]; omega
    have hg : Scalar.cmpi .sgt (BitVec.ofNat 32 n) 0#32 = 1#1 := by
      show BitVec.ofBool ((0#32).slt (BitVec.ofNat 32 n)) = 1#1
      rw [BitVec.slt_eq_decide, hi, decide_eq_true (by simpa using hp)]; rfl
    have hl : Scalar.cmpi .slt (BitVec.ofNat 32 n) 0#32 = 0#1 := by
      show BitVec.ofBool ((BitVec.ofNat 32 n).slt 0#32) = 0#1
      rw [BitVec.slt_eq_decide, hi, decide_eq_false (by simp)]; rfl
    have hs : Scalar.cmpi .ne (Scalar.subi (Scalar.extui (1#1)) (Scalar.extui (0#1)))
        (Scalar.subi (Scalar.extui (Scalar.cmpi .sgt 256#32 0#32)) (Scalar.extui (Scalar.cmpi .slt 256#32 0#32))) = 0#1 := by decide
    unfold floorDiv
    rw [hg, hl, hs, hd]
    show Scalar.select (0#1 &&& _) _ _ = _
    rw [BitVec.zero_and]
    rfl

theorem toInt_ofNat {n : Nat} (hn : n < 2 ^ 31) : (BitVec.ofNat 32 n).toInt = n := by
  rw [BitVec.toInt_eq_toNat_bmod, BitVec.toNat_ofNat, Int.bmod_def]; omega

/-- The steps of 1 from `a` to `b`, as both loops are written. -/
def steps (a b : BitVec 32) : Scf.Loop 32 where
  lb := a
  ub := Scalar.addi a (Scalar.muli (Scalar.divsi (Scalar.subi b a) 1#32) 1#32)
  st := 1#32

theorem steps_ub (a b : BitVec 32) : (steps a b).ub = b := by
  show Scalar.addi a _ = b
  rw [Scalar.muli_divsi_one]
  show a + (b - a) = b
  rw [BitVec.add_comm, BitVec.sub_add_cancel]

theorem steps_trips {a b : Nat} (ha : a < 2 ^ 31) (hb : b < 2 ^ 31) :
    (steps (BitVec.ofNat 32 a) (BitVec.ofNat 32 b)).trips = b - a := by
  show Scf.trips _ _ _ = _
  rw [steps_ub]
  show Scf.trips (BitVec.ofNat 32 a) (BitVec.ofNat 32 b) 1#32 = _
  unfold Scf.trips
  rw [toInt_ofNat ha, toInt_ofNat hb, show (1#32 : BitVec 32).toInt = 1 by decide]
  omega

theorem steps_ok {a b : Nat} (ha : a < 2 ^ 30) (hb : b < 2 ^ 30) : (steps (BitVec.ofNat 32 a) (BitVec.ofNat 32 b)).OK := by
  have ht := steps_trips (a := a) (b := b) (by omega) (by omega)
  refine ⟨(by decide : 0 < (1#32 : BitVec 32).toInt), ?_⟩
  show (BitVec.ofNat 32 a).toInt + ((steps (BitVec.ofNat 32 a) (BitVec.ofNat 32 b)).trips : Int) * (1#32 : BitVec 32).toInt < _
  rw [ht, toInt_ofNat (by omega), show (1#32 : BitVec 32).toInt = 1 by decide]
  omega

/-- The offset of the chunk a trip visits. -/
theorem chunk_toNat {a k : Nat} (h : (a + k) * 256 < 2 ^ 32) :
    (Scalar.muli (Scf.iv (BitVec.ofNat 32 a) 1#32 k) 256#32).toNat = (a + k) * 256 := by
  show ((BitVec.ofNat 32 a + BitVec.ofNat 32 k * 1#32) * 256#32).toNat = _
  rw [BitVec.mul_one, ← BitVec.ofNat_add, ← BitVec.ofNat_mul, BitVec.toNat_ofNat, Nat.mod_eq_of_lt h]

/-- A block's first chunk. -/
theorem floorDiv_block (i : Fin 32) :
    floorDiv (Scalar.muli (BitVec.ofNat 32 i.val) 512#32) = BitVec.ofNat 32 (2 * i.val) := by
  revert i; decide

/-- The rounded-up division of a count, as the kernel writes it. -/
theorem ceilDiv_ofNat {n : Nat} (hn : n ≤ 16384) :
    floorDiv (Scalar.subi (Scalar.addi (BitVec.ofNat 32 n) 256#32) 1#32) = BitVec.ofNat 32 ((n + 255) / 256) := by
  rw [show Scalar.subi (Scalar.addi (BitVec.ofNat 32 n) 256#32) 1#32 = BitVec.ofNat 32 (n + 255) from ?_, floorDiv_ofNat (by omega)]
  apply BitVec.eq_of_toNat_eq
  show (BitVec.ofNat 32 n + 256#32 - 1#32).toNat = _
  simp only [BitVec.toNat_sub, BitVec.toNat_add, BitVec.toNat_ofNat]
  omega

/-- The sum over a whole array of a comparison's one-bit results, widened, is the count of the true ones. -/
theorem count_toNat {s s' t : Shape} {axes : List (Fin s'.rank)} (p : IVec s 1) (hlt : 1 < 32) (hc : s.ShapeCasts s')
    (h : s'.Reduces axes t) (hacc : (0#32 : BitVec 32) = IKind.add.neutral) (j : t.Idx) (hone : ∀ i, h.drop i = j)
    (hn : s.numel < 2 ^ 32) :
    (multiReductionI .add axes t (shapeCast s' (extui 32 p hlt) hc) 0#32 h hacc j).toNat
      = (Finset.univ.filter fun i : s.Idx => p i = 1#1).card := by
  have hsum : ∑ i ∈ Finset.univ.filter (fun i => h.drop i = j), (shapeCast s' (extui 32 p hlt) hc i).toNat
      = (Finset.univ.filter fun i : s.Idx => p i = 1#1).card := by
    rw [Finset.filter_true_of_mem (fun i _ => hone i), Finset.card_filter]
    rw [← Equiv.sum_comp (Shape.reshapeEquiv hc)]
    refine Finset.sum_congr rfl fun i _ => ?_
    show ((p (Shape.reshapeEquiv hc i)).setWidth 32).toNat = _
    generalize p (Shape.reshapeEquiv hc i) = q
    revert q; decide
  rw [WordSum.toNat_multiReductionI_add _ _ _ _ ?_, hsum]
  rw [hsum]
  refine lt_of_le_of_lt (Finset.card_le_univ _) ?_
  rw [Fintype.card_congr s.rowMajor, Fintype.card_fin]
  exact hn

end Cert.Words
-- ==== Proof.KernelIdeal.Checks.lean ====
/- The side conditions of the kernel's chunk loops hold whatever the arrays hold: a count over the 16384 batch ids is
   at most 16384, so a loop's chunks stay inside the rows. -/
module

public import proofs.«01_k».proof.Proof.Gen.KernelIdeal.Skeleton
public import proofs.«01_k».proof.Proof.Words

@[expose] public section

set_option maxRecDepth 16384

noncomputable section

namespace Cert.KernelIdeal.Gen

open Idealize.ShloMosaic Cert.Words

variable {F : FTy → Type} [FloatOps F]

/-- A word of at most 16384 is the word of its value. -/
theorem word_eq (w : BitVec 32) : w = BitVec.ofNat 32 w.toNat := by simp

theorem t1_eq (i : grid0.Coords) (w : BitVec 32) :
    k0_t1_loop i w = steps (floorDiv w) (floorDiv (Scalar.muli (BitVec.ofNat 32 (i 0).val) 512#32)) := rfl

theorem t3_eq (i : grid0.Coords) (w : BitVec 32) :
    k0_t3_loop i w = steps (Scalar.addi (floorDiv (Scalar.muli (BitVec.ofNat 32 (i 0).val) 512#32)) 2#32)
      (floorDiv (Scalar.subi (Scalar.addi w 256#32) 1#32)) := rfl

theorem t1_word (i : grid0.Coords) {n : ℕ} (hn : n ≤ 16384) :
    k0_t1_loop i (BitVec.ofNat 32 n) = steps (BitVec.ofNat 32 (n / 256)) (BitVec.ofNat 32 (2 * (i 0).val)) := by
  rw [t1_eq, floorDiv_ofNat (by omega)]
  exact congrArg _ (floorDiv_block (i 0))

theorem t3_word (i : grid0.Coords) {n : ℕ} (hn : n ≤ 16384) :
    k0_t3_loop i (BitVec.ofNat 32 n) = steps (BitVec.ofNat 32 (2 * (i 0).val + 2)) (BitVec.ofNat 32 ((n + 255) / 256)) := by
  rw [t3_eq, ceilDiv_ofNat hn]
  refine congrArg (fun a => steps a _) ?_
  rw [show floorDiv (Scalar.muli (BitVec.ofNat 32 (i 0).val) 512#32) = _ from floorDiv_block (i 0)]
  exact (BitVec.ofNat_add _ _).symm

theorem t1_trips (i : grid0.Coords) {n : ℕ} (hn : n ≤ 16384) :
    (k0_t1_loop i (BitVec.ofNat 32 n)).trips = 2 * (i 0).val - n / 256 := by
  have hi : (i 0).val < 32 := (i 0).isLt
  rw [t1_word i hn]; exact steps_trips (by omega) (by omega)

theorem t3_trips (i : grid0.Coords) {n : ℕ} (hn : n ≤ 16384) :
    (k0_t3_loop i (BitVec.ofNat 32 n)).trips = (n + 255) / 256 - (2 * (i 0).val + 2) := by
  have hi : (i 0).val < 32 := (i 0).isLt
  rw [t3_word i hn]; exact steps_trips (by omega) (by omega)

/-- Where the left loop's trip reads. -/
theorem off1_eq (i : grid0.Coords) {n : ℕ} (hn : n ≤ 16384) (k : Fin (k0_t1_loop i (BitVec.ofNat 32 n)).trips) :
    k0_off1 i (BitVec.ofNat 32 n) k = ![0, (n / 256 + k.val) * 256] := by
  have hk := lt_of_lt_of_eq k.isLt (t1_trips i hn)
  have hi : (i 0).val < 32 := (i 0).isLt
  have h : (Scalar.muli (Scf.iv (floorDiv (BitVec.ofNat 32 n)) 1#32 k.val) 256#32).toNat = (n / 256 + k.val) * 256 := by
    rw [floorDiv_ofNat (by omega)]; exact chunk_toNat (by omega)
  funext a
  match a with
  | 0 => rfl
  | 1 => exact h

theorem mult1_eq (i : grid0.Coords) {n : ℕ} (hn : n ≤ 16384) (k : Fin (k0_t1_loop i (BitVec.ofNat 32 n)).trips) :
    (k0_mult1 i (BitVec.ofNat 32 n) k).toNat = (n / 256 + k.val) * 256 := congrFun (off1_eq i hn k) 1

/-- Where the right loop's trip reads. -/
theorem off4_eq (i : grid0.Coords) {n : ℕ} (hn : n ≤ 16384) (k : Fin (k0_t3_loop i (BitVec.ofNat 32 n)).trips) :
    k0_off4 i (BitVec.ofNat 32 n) k = ![0, (2 * (i 0).val + 2 + k.val) * 256] := by
  have hk := lt_of_lt_of_eq k.isLt (t3_trips i hn)
  have h : (Scalar.muli (Scf.iv (Scalar.addi (floorDiv (Scalar.muli (BitVec.ofNat 32 (i 0).val) 512#32)) 2#32) 1#32 k.val) 256#32).toNat
      = (2 * (i 0).val + 2 + k.val) * 256 := by
    rw [show floorDiv (Scalar.muli (BitVec.ofNat 32 (i 0).val) 512#32) = _ from floorDiv_block (i 0),
      show Scalar.addi (BitVec.ofNat 32 (2 * (i 0).val)) 2#32 = BitVec.ofNat 32 (2 * (i 0).val + 2) from (BitVec.ofNat_add _ _).symm]
    exact chunk_toNat (by omega)
  funext a
  match a with
  | 0 => rfl
  | 1 => exact h

theorem mult5_eq (i : grid0.Coords) {n : ℕ} (hn : n ≤ 16384) (k : Fin (k0_t3_loop i (BitVec.ofNat 32 n)).trips) :
    (k0_mult5 i (BitVec.ofNat 32 n) k).toNat = (2 * (i 0).val + 2 + k.val) * 256 := congrFun (off4_eq i hn k) 1

theorem t2_trips (i : grid0.Coords) (w : BitVec 32) : (k0_t2_loop i w).trips = 0 := Scf.rem_trips _ _

theorem t4_trips (i : grid0.Coords) (w : BitVec 32) : (k0_t4_loop i w).trips = 0 := Scf.rem_trips _ _

theorem t2_ok (i : grid0.Coords) (w : BitVec 32) : (k0_t2_loop i w).OK := Scf.rem_ok _ _

theorem t4_ok (i : grid0.Coords) (w : BitVec 32) : (k0_t4_loop i w).OK := Scf.rem_ok _ _

/-- A chunk at a multiple of 256 below 16384 lies inside the row. -/
theorem chunk_inb {j : ℕ} (h : j < 64) (a : Fin 2) : (![0, j * 256] : Fin 2 → ℕ) a + S1x256.size a ≤ S1x16384.size a := by
  match a with
  | 0 => exact le_rfl
  | 1 => show j * 256 + 256 ≤ 16384; omega

theorem chk1_of_le (i : grid0.Coords) {n : ℕ} (hn : n ≤ 16384) : k0_chk1 i (BitVec.ofNat 32 n) := by
  have hi : (i 0).val < 32 := (i 0).isLt
  refine ⟨?_, fun k => ?_, fun k a => ?_, t2_ok i _, fun k => ?_, fun k => ?_⟩
  · rw [t1_word i hn]; exact steps_ok (by omega) (by omega)
  · rw [mult1_eq i hn]; exact Dvd.intro_left _ rfl
  · have hk := lt_of_lt_of_eq k.isLt (t1_trips i hn)
    rw [off1_eq i hn]; exact chunk_inb (by omega) a
  · exact absurd (lt_of_lt_of_eq k.isLt (t2_trips i _)) (Nat.not_lt_zero _)
  · exact absurd (lt_of_lt_of_eq k.isLt (t2_trips i _)) (Nat.not_lt_zero _)

theorem chk2_of_le (i : grid0.Coords) {n : ℕ} (hn : n ≤ 16384) : k0_chk2 i (BitVec.ofNat 32 n) := by
  have hi : (i 0).val < 32 := (i 0).isLt
  refine ⟨?_, fun k => ?_, fun k a => ?_, t4_ok i _, fun k => ?_, fun k => ?_⟩
  · rw [t3_word i hn]; exact steps_ok (by omega) (by omega)
  · rw [mult5_eq i hn]; exact Dvd.intro_left _ rfl
  · have hk := lt_of_lt_of_eq k.isLt (t3_trips i hn)
    rw [off4_eq i hn]; exact chunk_inb (by omega) a
  · exact absurd (lt_of_lt_of_eq k.isLt (t4_trips i _)) (Nat.not_lt_zero _)
  · exact absurd (lt_of_lt_of_eq k.isLt (t4_trips i _)) (Nat.not_lt_zero _)

/-- An array of one element has one index. -/
theorem one_index (a b : S1.Idx) : a = b := by
  funext k
  match k with
  | 0 => exact Fin.ext (by have h1 : (a 0).val < 1 := (a 0).isLt; have h2 : (b 0).val < 1 := (b 0).isLt; omega)

theorem extractAt_shapeCast {α : Type} {s t : Shape} (x : s.Idx → α) (h : s.ShapeCasts t) (pos : Fin t.rank → ℕ)
    (hp : ∀ a, pos a < t.size a) : extractAt pos (shapeCast t x h) hp = x (Shape.reshapeEquiv h fun a => ⟨pos a, hp a⟩) := rfl

/-- The number of a comparison's true results over the batch ids, as the kernel sums it. -/
theorem count_eq (p : IVec S8x2048 1) :
    (extractAt ![0, 0, 0] (shapeCast S1x1x1 (multiReductionI .add [1, 2] S1
        (shapeCast S1x8x2048 (extui 32 p natLt_1_32) shapeCasts_S8x2048_S1x8x2048) 0#32 reduces_S1x8x2048_S1 rfl)
        shapeCasts_S1_S1x1x1) inpos_S1x1x1_p0_0_0).toNat
      = (Finset.univ.filter fun j : S8x2048.Idx => p j = 1#1).card := by
  have hn : S8x2048.numel ≤ 16384 := by decide
  have hn' : S8x2048.numel < 2 ^ 32 := by omega
  have h := fun j => count_toNat p natLt_1_32 shapeCasts_S8x2048_S1x8x2048 reduces_S1x8x2048_S1 rfl j (fun _ => one_index _ _) hn'
  rw [extractAt_shapeCast]
  exact h _

theorem card_le (p : S8x2048.Idx → Prop) [DecidablePred p] : (Finset.univ.filter p).card ≤ 16384 := by
  refine (Finset.card_le_univ _).trans ?_
  rw [Fintype.card_congr S8x2048.rowMajor, Fintype.card_fin]
  exact (by decide : S8x2048.numel ≤ 16384)

/-- The number of batch ids below the block's least one, as the kernel computes it. -/
def belowCount (v6 : Vec F S512x1 .i32) (v8 : Vec F S8x2048 .i32) : BitVec 32 :=
  extractAt ![0, 0, 0] (k0_pay20 v6 v8) inpos_S1x1x1_p0_0_0

/-- The number of batch ids up to a bound, as the kernel computes it. -/
def uptoCount (v9 : IVec S8x2048 32) (v17 : BitVec 32) : BitVec 32 :=
  extractAt ![0, 0, 0] (k0_pay21 v9 v17) inpos_S1x1x1_p0_0_0

theorem belowCount_le (v6 : Vec F S512x1 .i32) (v8 : Vec F S8x2048 .i32) : (belowCount v6 v8).toNat ≤ 16384 :=
  (count_eq _).le.trans (card_le _)

theorem uptoCount_le (v9 : IVec S8x2048 32) (v17 : BitVec 32) : (uptoCount v9 v17).toNat ≤ 16384 :=
  (count_eq _).le.trans (card_le _)

theorem chk1_holds (i : grid0.Coords) (v6 : Vec F S512x1 .i32) (v8 : Vec F S8x2048 .i32) : k0_chk1 i (belowCount v6 v8) := by
  rw [word_eq (belowCount v6 v8)]
  exact chk1_of_le i (belowCount_le v6 v8)

theorem chk2_holds (i : grid0.Coords) (v9 : IVec S8x2048 32) (v17 : BitVec 32) : k0_chk2 i (uptoCount v9 v17) := by
  rw [word_eq (uptoCount v9 v17)]
  exact chk2_of_le i (uptoCount_le v9 v17)

theorem chk1_of (i : grid0.Coords) {w : BitVec 32} (h : ∃ (v6 : Vec F S512x1 .i32) (v8 : Vec F S8x2048 .i32), w = belowCount v6 v8) :
    k0_chk1 i w := by
  obtain ⟨v6, v8, h⟩ := h; rw [h]; exact chk1_holds i v6 v8

theorem chk2_of (i : grid0.Coords) {w : BitVec 32} (h : ∃ (v9 : IVec S8x2048 32) (v17 : BitVec 32), w = uptoCount v9 v17) :
    k0_chk2 i w := by
  obtain ⟨v9, v17, h⟩ := h; rw [h]; exact chk2_holds i v9 v17

end Cert.KernelIdeal.Gen
-- ==== Proof.KernelIdeal.Buffers.lean ====
/- The buffers of one grid point of the kernel, and what they hold. -/
module

public import proofs.«01_k».proof.Proof.Gen.KernelIdeal.Launch
public import proofs.«01_k».proof.Proof.Gen.KernelIdeal.Points
public import proofs.«01_k».proof.Proof.Gen.KernelIdeal.Loops
public import proofs.«01_k».proof.Proof.KernelIdeal.Checks
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

/-- A whole buffer holding an array. -/
abbrev at_ (c : Dev nD) {s : Shape} {e : EltTy} {a : Memref sig .tc .vmem s e} (w : a.IsWhole) (x : s.Idx → Elt F e) : sProp 𝕄 :=
  a.view.loc (c : Thread nD τ) ↦[a.view.set]{fullShare} w.unread x

/-- Owning a whole buffer at an array is holding it there. -/
theorem owns_at (c : Dev nD) {s : Shape} {e : EltTy} {a : Memref sig .tc .vmem s e} (w : a.IsWhole) (x : s.Idx → Elt F e) :
    (owns (c : Thread nD τ) a fullShare x : sProp 𝕄) = at_ c w x := by
  have h₁ : (owns (c : Thread nD τ) a fullShare x : sProp 𝕄) ⊢ at_ c w x := by
    unfold owns
    iintro ⟨%f, %hf, H⟩
    obtain rfl := w.eq_unread hf
    iexact H
  have h₂ : at_ c w x ⊢ (owns (c : Thread nD τ) a fullShare x : sProp 𝕄) := by
    unfold owns
    iintro H
    iexists _
    isplitr
    · ipureintro; exact w.read_unread _
    iexact H
  exact BI.equiv_iff.mp ⟨h₁, h₂⟩

/-- The buffers the body is run on. -/
structure Args where
  /-- the magnitudes as a row -/
  a1 : Memref sig .tc .vmem S1x16384 .f32
  w1 : a1.IsWhole
  /-- the batch ids as a row -/
  a2 : Memref sig .tc .vmem S1x16384 .i32
  w2 : a2.IsWhole
  /-- the batch ids as eight rows -/
  a3 : Memref sig .tc .vmem S8x2048 .i32
  w3 : a3.IsWhole
  /-- the block's magnitudes -/
  a4 : Memref sig .tc .vmem S512x1 .f32
  w4 : a4.IsWhole
  /-- the block's batch ids -/
  a5 : Memref sig .tc .vmem S512x1 .i32
  w5 : a5.IsWhole
  /-- the block's tokens -/
  a6 : Memref sig .tc .vmem S512x512 .f32
  w6 : a6.IsWhole
  /-- the first token weights -/
  a7 : Memref sig .tc .vmem S512x512 .f32
  w7 : a7.IsWhole
  /-- their bias -/
  a8 : Memref sig .tc .vmem S1x512 .f32
  w8 : a8.IsWhole
  /-- the token normalisation gain -/
  a9 : Memref sig .tc .vmem S1x512 .f32
  w9 : a9.IsWhole
  /-- and offset -/
  a10 : Memref sig .tc .vmem S1x512 .f32
  w10 : a10.IsWhole
  /-- the second token weights -/
  a11 : Memref sig .tc .vmem S512x512 .f32
  w11 : a11.IsWhole
  /-- their bias -/
  a12 : Memref sig .tc .vmem S1x512 .f32
  w12 : a12.IsWhole
  /-- the first position weights -/
  a13 : Memref sig .tc .vmem S513x512 .f32
  w13 : a13.IsWhole
  /-- their bias -/
  a14 : Memref sig .tc .vmem S1x512 .f32
  w14 : a14.IsWhole
  /-- the position normalisation gain -/
  a15 : Memref sig .tc .vmem S1x512 .f32
  w15 : a15.IsWhole
  /-- and offset -/
  a16 : Memref sig .tc .vmem S1x512 .f32
  w16 : a16.IsWhole
  /-- the second position weights -/
  a17 : Memref sig .tc .vmem S512x512 .f32
  w17 : a17.IsWhole
  /-- their bias -/
  a18 : Memref sig .tc .vmem S1x512 .f32
  w18 : a18.IsWhole
  /-- the first output weights -/
  a19 : Memref sig .tc .vmem S1025x768 .f32
  w19 : a19.IsWhole
  /-- their bias -/
  a20 : Memref sig .tc .vmem S1x768 .f32
  w20 : a20.IsWhole
  /-- the second output weights -/
  a21 : Memref sig .tc .vmem S768x512 .f32
  w21 : a21.IsWhole
  /-- their bias -/
  a22 : Memref sig .tc .vmem S1x512 .f32
  w22 : a22.IsWhole
  /-- the output -/
  a23 : Memref sig .tc .vmem S64x512 .f32
  w23 : a23.IsWhole
  /-- the position table -/
  a24 : Memref sig .tc .vmem S520x512 .bf16
  w24 : a24.IsWhole
  /-- the first token weights, narrowed -/
  a25 : Memref sig .tc .vmem S512x512 .bf16
  w25 : a25.IsWhole
  /-- the second token weights, narrowed -/
  a26 : Memref sig .tc .vmem S512x512 .bf16
  w26 : a26.IsWhole
  /-- the accumulated segment sums -/
  a27 : Memref sig .tc .vmem S64x512 .f32
  w27 : a27.IsWhole
  /-- the segment counts -/
  a28 : Memref sig .tc .vmem S64x1 .i32
  w28 : a28.IsWhole

/-- What the input buffers hold at a grid point. -/
structure Ins (F : FTy → Type) [FloatOps F] where
  x1 : Vec F S1x16384 .f32
  x2 : Vec F S1x16384 .i32
  x3 : Vec F S8x2048 .i32
  x4 : Vec F S512x1 .f32
  x5 : Vec F S512x1 .i32
  x6 : Vec F S512x512 .f32
  x7 : Vec F S512x512 .f32
  x8 : Vec F S1x512 .f32
  x9 : Vec F S1x512 .f32
  x10 : Vec F S1x512 .f32
  x11 : Vec F S512x512 .f32
  x12 : Vec F S1x512 .f32
  x13 : Vec F S513x512 .f32
  x14 : Vec F S1x512 .f32
  x15 : Vec F S1x512 .f32
  x16 : Vec F S1x512 .f32
  x17 : Vec F S512x512 .f32
  x18 : Vec F S1x512 .f32
  x19 : Vec F S1025x768 .f32
  x20 : Vec F S1x768 .f32
  x21 : Vec F S768x512 .f32
  x22 : Vec F S1x512 .f32

/-- What the scratch buffers hold between grid points. -/
structure Scr (F : FTy → Type) [FloatOps F] where
  /-- the position table -/
  pet : Vec F S520x512 .bf16
  /-- the first token weights, narrowed -/
  w1 : Vec F S512x512 .bf16
  /-- the second token weights, narrowed -/
  w2 : Vec F S512x512 .bf16
  /-- the accumulated segment sums -/
  acc : Vec F S64x512 .f32
  /-- the segment counts -/
  cnt : Vec F S64x1 .i32

/-- The body at a grid point, on given buffers. -/
abbrev bodyOn (i : grid0.Coords) (a : Args) : Prog (TpuEff nD τ sig (Elt F) Λ₀ .tc) PUnit :=
  cc0__body i a.a1 a.w1 a.a2 a.w2 a.a3 a.w3 a.a4 a.w4 a.a5 a.w5 a.a6 a.w6 a.a7 a.w7 a.a8 a.w8 a.a9 a.w9 a.a10 a.w10 a.a11 a.w11 a.a12 a.w12 a.a13 a.w13 a.a14 a.w14 a.a15 a.w15 a.a16 a.w16 a.a17 a.w17 a.a18 a.w18 a.a19 a.w19 a.a20 a.w20 a.a21 a.w21 a.a22 a.w22 a.a23 a.w23 a.a24 a.w24 a.a25 a.w25 a.a26 a.w26 a.a27 a.w27 a.a28 a.w28

/-- The input buffers at their contents. -/
abbrev insAt (c : Dev nD) (a : Args) (v : Ins F) : sProp 𝕄 :=
  iprop(at_ c a.w1 v.x1 ∗ at_ c a.w2 v.x2 ∗ at_ c a.w3 v.x3 ∗ at_ c a.w4 v.x4 ∗ at_ c a.w5 v.x5 ∗ at_ c a.w6 v.x6 ∗ at_ c a.w7 v.x7 ∗ at_ c a.w8 v.x8 ∗ at_ c a.w9 v.x9 ∗ at_ c a.w10 v.x10 ∗ at_ c a.w11 v.x11 ∗ at_ c a.w12 v.x12 ∗ at_ c a.w13 v.x13 ∗ at_ c a.w14 v.x14 ∗ at_ c a.w15 v.x15 ∗ at_ c a.w16 v.x16 ∗ at_ c a.w17 v.x17 ∗ at_ c a.w18 v.x18 ∗ at_ c a.w19 v.x19 ∗ at_ c a.w20 v.x20 ∗ at_ c a.w21 v.x21 ∗ at_ c a.w22 v.x22)

/-- The scratch buffers at their contents. -/
abbrev scrAt (c : Dev nD) (a : Args) (s : Scr F) : sProp 𝕄 :=
  iprop(at_ c a.w24 s.pet ∗ at_ c a.w25 s.w1 ∗ at_ c a.w26 s.w2 ∗ at_ c a.w27 s.acc ∗ at_ c a.w28 s.cnt)

end Cert.KernelIdeal.Gen
-- ==== Proof.KernelIdeal.Point.lean ====
/- What the kernel computes at one grid point from the blocks it reads and the scratch it carries. -/
module

public import proofs.«01_k».proof.Proof.KernelIdeal.Buffers
public import Idealize.ShloMosaic.Lib.VecWindow

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

/-- A column of a row. -/
def colIx (n : ℕ) : S1x16384.Idx := fun a =>
  match a with
  | 0 => ⟨0, Nat.one_pos⟩
  | 1 => ⟨n % 16384, Nat.mod_lt _ (Nat.succ_pos _)⟩

/-- The `q`-th chunk of 256 columns of a row. -/
def chunk {α : Type} (x : S1x16384.Idx → α) (q : ℕ) : S1x256.Idx → α := fun j => x (colIx (q * 256 + (j 1).val))

/-- A fold over consecutive chunks of two rows, from chunk `lo`. -/
def overChunks {α β γ : Type} (f : γ → (S1x256.Idx → α) → (S1x256.Idx → β) → γ) (x : S1x16384.Idx → α) (y : S1x16384.Idx → β)
    (lo : ℕ) (init : γ) : ℕ → γ
  | 0 => init
  | k + 1 => f (overChunks f x y lo init k) (chunk x (lo + k)) (chunk y (lo + k))

/-- A load of 256 columns is a chunk. -/
theorem read_chunk {e : EltTy} {a : Memref sig .tc .vmem S1x16384 e} (w : a.IsWhole) (x : S1x16384.Idx → Elt F e) {off : Fin 2 → ℕ}
    (inb : ∀ d, off d + S1x256.size d ≤ S1x16384.size d) (q : ℕ) (hoff : off = ![0, q * 256]) :
    a.view.readAt (Elt F) (Rect.unit (s := S1x16384) off S1x256.size inb).toLoadRect (w.unread x) = chunk x q := by
  subst hoff
  funext j
  rw [View.readAt_apply, w.read_unread]
  refine congrArg x (funext fun d => Fin.ext ?_)
  have hq : q * 256 + 256 ≤ 16384 := inb 1
  match d with
  | 0 =>
    have hj : (j 0).val < 1 := (j 0).isLt
    show 0 + 1 * (j 0).val = 0
    omega
  | 1 =>
    have hj : (j 1).val < 256 := (j 1).isLt
    show q * 256 + 1 * (j 1).val = (q * 256 + (j 1).val) % 16384
    omega

/-- A load of a whole buffer is the array it holds. -/
theorem read_all {s : Shape} {e : EltTy} {a : Memref sig .tc .vmem s e} (w : a.IsWhole) (x : s.Idx → Elt F e) {off : Fin s.rank → ℕ}
    (inb : ∀ d, off d + s.size d ≤ s.size d) : a.view.readAt (Elt F) (Rect.unit off s.size inb).toLoadRect (w.unread x) = x := by
  rw [View.readAt_full, w.read_unread]

/-- A word of at most 16384. -/
theorem exists_word {w : BitVec 32} (h : w.toNat ≤ 16384) : ∃ n, n ≤ 16384 ∧ w = BitVec.ofNat 32 n ∧ w.toNat = n :=
  ⟨w.toNat, h, word_eq w, rfl⟩

theorem off1_word (i : grid0.Coords) {w : BitVec 32} (h : w.toNat ≤ 16384) (k : Fin (k0_t1_loop i w).trips) :
    k0_off1 i w k = ![0, (w.toNat / 256 + k.val) * 256] := by
  obtain ⟨n, hn, hw, hv⟩ := exists_word h
  rw [hv]; subst hw; exact off1_eq i hn k

theorem off4_word (i : grid0.Coords) {w : BitVec 32} (h : w.toNat ≤ 16384) (k : Fin (k0_t3_loop i w).trips) :
    k0_off4 i w k = ![0, (2 * (i 0).val + 2 + k.val) * 256] := by
  obtain ⟨n, hn, hw, hv⟩ := exists_word h
  subst hw; exact off4_eq i hn k

theorem trips1_word (i : grid0.Coords) {w : BitVec 32} (h : w.toNat ≤ 16384) :
    (k0_t1_loop i w).trips = 2 * (i 0).val - w.toNat / 256 := by
  obtain ⟨n, hn, hw, hv⟩ := exists_word h
  rw [hv]; subst hw; exact t1_trips i hn

theorem trips3_word (i : grid0.Coords) {w : BitVec 32} (h : w.toNat ≤ 16384) :
    (k0_t3_loop i w).trips = (w.toNat + 255) / 256 - (2 * (i 0).val + 2) := by
  obtain ⟨n, hn, hw, hv⟩ := exists_word h
  rw [hv]; subst hw; exact t3_trips i hn

section Loops

variable (c : Dev nD) (i : grid0.Coords) (a : Args) (v5 : FVec F S512x1 .f32) (v7 : IVec S512x1 32) (x1 : Vec F S1x16384 .f32) (x2 : Vec F S1x16384 .i32)

/-- One trip of the left loop. -/
theorem trip1_eq (w : BitVec 32) (hw : k0_chk1 i w) (v41 v68 : BitVec 32) (v79 : BitVec 1) (v80 z : BitVec 32)
    (h : w.toNat ≤ 16384) (k : Fin (k0_t1_loop i w).trips) (acc : IVec S512x256 32) :
    tripR_k0_t1 (F := F) Variants.none c none i a.a1 a.w1 a.a2 a.w2 a.a3 a.w3 a.a4 a.w4 a.a5 a.w5 a.a6 a.w6 a.a7 a.w7 a.a8 a.w8 a.a9 a.w9 a.a10 a.w10 a.a11 a.w11 a.a12 a.w12 a.a13 a.w13 a.a14 a.w14 a.a15 a.w15 a.a16 a.w16 a.a17 a.w17 a.a18 a.w18 a.a19 a.w19 a.a20 a.w20 a.a21 a.w21 a.a22 a.w22 a.a23 a.w23 a.a24 a.w24 a.a25 a.w25 a.a26 a.w26 a.a27 a.w27 a.a28 a.w28 v5 v7 w hw v41 v68 v79 v80 z (a.w1.unread x1) (a.w2.unread x2) k acc
      = k0_pay23 v5 v7 acc (chunk x1 (w.toNat / 256 + k.val)) (chunk x2 (w.toNat / 256 + k.val)) := by
  rw [← read_chunk a.w1 x1 (k0_off1_inb i w hw k) _ (off1_word i h k), ← read_chunk a.w2 x2 (k0_off1_inb i w hw k) _ (off1_word i h k)]
  unfold tripR_k0_t1 trip_k0_t1
  rfl

/-- The left loop's carried counts are the fold over its chunks. -/
theorem left_eq (w : BitVec 32) (hw : k0_chk1 i w) (v41 v68 : BitVec 32) (v79 : BitVec 1) (v80 z : BitVec 32)
    (h : w.toNat ≤ 16384) (init : IVec S512x256 32) (k : ℕ) (hk : k ≤ (k0_t1_loop i w).trips) :
    st_k0_t1 (F := F) Variants.none c none i a.a1 a.w1 a.a2 a.w2 a.a3 a.w3 a.a4 a.w4 a.a5 a.w5 a.a6 a.w6 a.a7 a.w7 a.a8 a.w8 a.a9 a.w9 a.a10 a.w10 a.a11 a.w11 a.a12 a.w12 a.a13 a.w13 a.a14 a.w14 a.a15 a.w15 a.a16 a.w16 a.a17 a.w17 a.a18 a.w18 a.a19 a.w19 a.a20 a.w20 a.a21 a.w21 a.a22 a.w22 a.a23 a.w23 a.a24 a.w24 a.a25 a.w25 a.a26 a.w26 a.a27 a.w27 a.a28 a.w28 v5 v7 w hw v41 v68 v79 v80 z (a.w1.unread x1) (a.w2.unread x2) init k
      = overChunks (fun acc m b => k0_pay23 v5 v7 acc m b) x1 x2 (w.toNat / 256) init k := by
  induction k with
  | zero => rfl
  | succ k ih =>
    rw [st_k0_t1_succ (k := ⟨k, hk⟩), trip1_eq (h := h), ih (Nat.le_of_succ_le hk)]
    rfl

/-- One trip of the right loop. -/
theorem trip3_eq (w : BitVec 32) (hw : k0_chk2 i w) (v67 v84 : BitVec 32) (v93 : IVec S512x1 32) (v94 : IVec S1x256 32)
    (v122 : IVec S512x256 32) (v125 : BitVec 32) (v127 : Vec F S1x256 .f32)
    (h : w.toNat ≤ 16384) (k : Fin (k0_t3_loop i w).trips) (acc : IVec S512x256 32) :
    tripR_k0_t3 (F := F) Variants.none c none i a.a1 a.w1 a.a2 a.w2 a.a3 a.w3 a.a4 a.w4 a.a5 a.w5 a.a6 a.w6 a.a7 a.w7 a.a8 a.w8 a.a9 a.w9 a.a10 a.w10 a.a11 a.w11 a.a12 a.w12 a.a13 a.w13 a.a14 a.w14 a.a15 a.w15 a.a16 a.w16 a.a17 a.w17 a.a18 a.w18 a.a19 a.w19 a.a20 a.w20 a.a21 a.w21 a.a22 a.w22 a.a23 a.w23 a.a24 a.w24 a.a25 a.w25 a.a26 a.w26 a.a27 a.w27 a.a28 a.w28 v5 v7 w hw v67 v84 v93 v94 v122 v125 v127 (a.w1.unread x1) (a.w2.unread x2) k acc
      = k0_pay27 v5 v7 acc (chunk x1 (2 * (i 0).val + 2 + k.val)) (chunk x2 (2 * (i 0).val + 2 + k.val)) := by
  rw [← read_chunk a.w1 x1 (k0_off4_inb i w hw k) _ (off4_word i h k), ← read_chunk a.w2 x2 (k0_off4_inb i w hw k) _ (off4_word i h k)]
  unfold tripR_k0_t3 trip_k0_t3
  rfl

/-- The right loop's carried counts are the fold over its chunks. -/
theorem right_eq (w : BitVec 32) (hw : k0_chk2 i w) (v67 v84 : BitVec 32) (v93 : IVec S512x1 32) (v94 : IVec S1x256 32)
    (v122 : IVec S512x256 32) (v125 : BitVec 32) (v127 : Vec F S1x256 .f32)
    (h : w.toNat ≤ 16384) (init : IVec S512x256 32) (k : ℕ) (hk : k ≤ (k0_t3_loop i w).trips) :
    st_k0_t3 (F := F) Variants.none c none i a.a1 a.w1 a.a2 a.w2 a.a3 a.w3 a.a4 a.w4 a.a5 a.w5 a.a6 a.w6 a.a7 a.w7 a.a8 a.w8 a.a9 a.w9 a.a10 a.w10 a.a11 a.w11 a.a12 a.w12 a.a13 a.w13 a.a14 a.w14 a.a15 a.w15 a.a16 a.w16 a.a17 a.w17 a.a18 a.w18 a.a19 a.w19 a.a20 a.w20 a.a21 a.w21 a.a22 a.w22 a.a23 a.w23 a.a24 a.w24 a.a25 a.w25 a.a26 a.w26 a.a27 a.w27 a.a28 a.w28 v5 v7 w hw v67 v84 v93 v94 v122 v125 v127 (a.w1.unread x1) (a.w2.unread x2) init k
      = overChunks (fun acc m b => k0_pay27 v5 v7 acc m b) x1 x2 (2 * (i 0).val + 2) init k := by
  induction k with
  | zero => rfl
  | succ k ih =>
    rw [st_k0_t3_succ (k := ⟨k, hk⟩), trip3_eq (h := h), ih (Nat.le_of_succ_le hk)]
    rfl

end Loops

/-- Where a block's own two chunks are. -/
theorem off3_eq (i : grid0.Coords) (r : Fin 2) : k0_off3 i (BitVec.ofNat 32 r.val) = ![0, (2 * (i 0).val + r.val) * 256] := by
  have hi : (i 0).val < 32 := (i 0).isLt
  have hb : Words.floorDiv (Scalar.muli (BitVec.ofNat 32 (i 0).val) 512#32) = _ := Words.floorDiv_block (i 0)
  have h : (Scalar.muli (Scalar.addi (Words.floorDiv (Scalar.muli (BitVec.ofNat 32 (i 0).val) 512#32)) (BitVec.ofNat 32 r.val)) 256#32).toNat
      = (2 * (i 0).val + r.val) * 256 := by
    rw [hb]
    show ((BitVec.ofNat 32 (2 * (i 0).val) + BitVec.ofNat 32 r.val) * 256#32).toNat = _
    rw [← BitVec.ofNat_add, ← BitVec.ofNat_mul, BitVec.toNat_ofNat, Nat.mod_eq_of_lt (by omega)]
  funext d
  match d with
  | 0 => rfl
  | 1 => exact h

/-! ## The values of one point -/

section Point

variable (i : grid0.Coords) (v : Ins F)

/-- The number of ids below the block's least. -/
def below : ℕ := (belowCount v.x5 v.x3).toNat

/-- The number of ids up to the block's greatest. -/
def upto : ℕ := (uptoCount (k0_pay18 v.x3) (extractAt ![0, 0, 0] (k0_pay19 v.x5) inpos_S1x1x1_p0_0_0)).toNat

/-- The counts after the chunks left of the block's own. -/
def leftCounts : IVec S512x256 32 :=
  overChunks (fun acc m b => k0_pay23 (k0_pay16 v.x4) (k0_pay17 v.x5) acc m b) v.x1 v.x2 (below v / 256) k0_pay22
    (2 * (i 0).val - below v / 256)

/-- The counts after the block's own first chunk. -/
def ownCounts : IVec S512x256 32 :=
  k0_pay25 (k0_pay16 v.x4) (k0_pay17 v.x5) (leftCounts i v) (chunk v.x1 (2 * (i 0).val + 0)) (chunk v.x2 (2 * (i 0).val + 0))

/-- The counts after the block's own second chunk. -/
def ownCounts' : IVec S512x256 32 :=
  k0_pay26 (k0_pay16 v.x4) (k0_pay17 v.x5) (iota .tc S512x1 32 [0] iota_S512x1_d0_w32) (iota .tc S1x256 32 [1] iota_S1x256_d1_w32)
    (ownCounts i v) (chunk v.x1 (2 * (i 0).val + 1)) (chunk v.x2 (2 * (i 0).val + 1))

/-- The counts after the chunks right of the block's own. -/
def allCounts : IVec S512x256 32 :=
  overChunks (fun acc m b => k0_pay27 (k0_pay16 v.x4) (k0_pay17 v.x5) acc m b) v.x1 v.x2 (2 * (i 0).val + 2) (ownCounts' i v)
    ((upto v + 255) / 256 - (2 * (i 0).val + 2))

/-- The block's token rows, each multiplied by its position row. -/
def tokenRows (pet : Vec F S520x512 .bf16) (w1 w2 : Vec F S512x512 .bf16) : FVec F S512x512 .f32 :=
  k0_pay31 (k0_pay29 (allCounts i v)) (k0_pay30 v.x6 w1 v.x8) v.x9 v.x10 w2 v.x12 pet

/-- A chunk of 2048 columns of a row. -/
def wideChunk {α : Type} (x : S1x16384.Idx → α) (q : ℕ) : S1x2048.Idx → α := fun j => x (colIx (q * 2048 + (j 1).val))

/-- The segment counts. -/
def countsOf : Vec F S64x1 .i32 :=
  k0_pay7 (iota .tc S64x1 32 [0] iota_S64x1_d0_w32)
    (k0_pay5 (wideChunk v.x2 0) (wideChunk v.x2 1) (wideChunk v.x2 2) (wideChunk v.x2 3)) (k0_pay6 (wideChunk v.x2 4))
    (wideChunk v.x2 5) (wideChunk v.x2 6) (wideChunk v.x2 7)

/-- The position table. -/
def petOf : Vec F S520x512 .bf16 :=
  k0_pay13 (k0_pay10 (k0_pay8 v.x13 v.x14) (k0_pay9 v.x15) v.x16 v.x17 v.x18) (k0_pay11 v.x14) (k0_pay12 v.x15) v.x16 v.x17 v.x18

/-- The segment numbers along a row. -/
def segIota : IVec S1x64 32 := iota .tc S1x64 32 [1] iota_S1x64_d1_w32

/-- The scratch after the first point. -/
def firstScr : Scr F where
  pet := petOf v
  w1 := k0_pay14 v.x7
  w2 := k0_pay15 v.x11
  acc := k0_pay2 (tokenRows i v (petOf v) (k0_pay14 v.x7) (k0_pay15 v.x11)) segIota v.x5
  cnt := countsOf v

/-- The scratch after a later point. -/
def nextScr (s : Scr F) : Scr F where
  pet := s.pet
  w1 := s.w1
  w2 := s.w2
  acc := k0_pay3 (tokenRows i v s.pet s.w1 s.w2) segIota v.x5 s.acc
  cnt := s.cnt

/-- The rows of the first output weights that meet the segment sums, -/
def phiTop (x : Vec F S1025x768 .f32) : Vec F S512x768 .f32 := fun j => x fun d =>
  match d with
  | 0 => ⟨(j 0).val, Nat.lt_of_lt_of_le (j 0).isLt (by decide)⟩
  | 1 => j 1

/-- and those that meet the counts. -/
def phiBot (x : Vec F S1025x768 .f32) : Vec F S513x768 .f32 := fun j => x fun d =>
  match d with
  | 0 => ⟨512 + (j 0).val, Nat.add_lt_add_left (j 0).isLt 512⟩
  | 1 => j 1

/-- What the last point writes out. -/
def outOf (s : Scr F) : Vec F S64x512 .f32 :=
  k0_pay4 s.acc (phiTop v.x19) s.cnt (phiBot v.x19) v.x20 v.x21 v.x22

end Point

/-- A load of 2048 columns is a wide chunk. -/
theorem read_wide {e : EltTy} {a : Memref sig .tc .vmem S1x16384 e} (w : a.IsWhole) (x : S1x16384.Idx → Elt F e) (n q : ℕ)
    (inb : ∀ d, (![0, n] : Fin 2 → ℕ) d + S1x2048.size d ≤ S1x16384.size d) (hn : n = q * 2048) :
    a.view.readAt (Elt F) (Rect.unit (s := S1x16384) ![0, n] S1x2048.size inb).toLoadRect (w.unread x) = wideChunk x q := by
  funext j
  rw [View.readAt_apply, w.read_unread]
  refine congrArg x (funext fun d => Fin.ext ?_)
  have hq : n + 2048 ≤ 16384 := inb 1
  match d with
  | 0 =>
    have hj : (j 0).val < 1 := (j 0).isLt
    show 0 + 1 * (j 0).val = 0
    omega
  | 1 =>
    have hj : (j 1).val < 2048 := (j 1).isLt
    show n + 1 * (j 1).val = (q * 2048 + (j 1).val) % 16384
    omega

theorem read_top {a : Memref sig .tc .vmem S1025x768 .f32} (w : a.IsWhole) (x : Vec F S1025x768 .f32)
    (inb : ∀ d, (![0, 0] : Fin 2 → ℕ) d + S512x768.size d ≤ S1025x768.size d) :
    a.view.readAt (Elt F) (Rect.unit (s := S1025x768) ![0, 0] S512x768.size inb).toLoadRect (w.unread x) = phiTop x := by
  funext j
  rw [View.readAt_apply, w.read_unread]
  refine congrArg x (funext fun d => Fin.ext ?_)
  match d with
  | 0 => show 0 + 1 * (j 0).val = (j 0).val; omega
  | 1 => show 0 + 1 * (j 1).val = (j 1).val; omega

theorem read_bot {a : Memref sig .tc .vmem S1025x768 .f32} (w : a.IsWhole) (x : Vec F S1025x768 .f32)
    (inb : ∀ d, (![512, 0] : Fin 2 → ℕ) d + S513x768.size d ≤ S1025x768.size d) :
    a.view.readAt (Elt F) (Rect.unit (s := S1025x768) ![512, 0] S513x768.size inb).toLoadRect (w.unread x) = phiBot x := by
  funext j
  rw [View.readAt_apply, w.read_unread]
  refine congrArg x (funext fun d => Fin.ext ?_)
  match d with
  | 0 => show 512 + 1 * (j 0).val = 512 + (j 0).val; omega
  | 1 => show 0 + 1 * (j 1).val = (j 1).val; omega

/-- A buffer whose last store covers it holds what was stored. -/
theorem at_of_store (c : Dev nD) {s : Shape} {e : EltTy} {a : Memref sig .tc .vmem s e} (w : a.IsWhole) (f : a.view.ty.Contents (Elt F))
    {off : Fin s.rank → ℕ} (inb : ∀ d, off d + s.size d ≤ s.size d) (p : s.Idx → Elt F e) (L : List (View.Piece (Elt F) s e))
    (x : s.Idx → Elt F e) (h : p = x) :
    (a.view.loc (c : Thread nD τ) ↦[a.view.set]{fullShare} a.view.writes (Elt F) f (⟨Rect.unit off s.size inb, p⟩ :: L)) ⊢ (at_ c w x : sProp 𝕄) := by
  subst h
  rw [w.eq_unread (View.read_writes_full a.view f inb p L)]

/-- A load of a whole buffer after a store of the whole of it finds what was stored. -/
theorem read_stored {s : Shape} {e : EltTy} {a : Memref sig .tc .vmem s e} {off off' : Fin s.rank → ℕ} (inb : ∀ d, off d + s.size d ≤ s.size d)
    (inb' : ∀ d, off' d + s.size d ≤ s.size d) {p : s.Idx → Elt F e} (L : List (View.Piece (Elt F) s e)) {x : s.Idx → Elt F e} (h : p = x) :
    a.view.readCov (⟨Rect.unit off' s.size inb', p⟩ :: L) (Rect.unit off s.size inb).toLoadRect = x :=
  (View.readCov_full a.view inb inb' p L).trans h

/-- The counts a run ends with, from the words and loads it finds. -/
theorem counts_eq (c : Dev nD) (i : grid0.Coords) (a : Args) (v : Ins F) {v5 : FVec F S512x1 .f32} {v7 : IVec S512x1 32}
    {w24 w48 : BitVec 32} {hw1 : k0_chk1 i w24} {hw2 : k0_chk2 i w48} {v41 v68 v80 z v67 v84 v125 : BitVec 32} {v79 : BitVec 1}
    {v93 : IVec S512x1 32} {v94 : IVec S1x256 32} {v122 : IVec S512x256 32} {v127 m0 m1 : Vec F S1x256 .f32} {b0 b1 : Vec F S1x256 .i32}
    (h5 : v5 = k0_pay16 v.x4) (h7 : v7 = k0_pay17 v.x5) (h24 : w24 = belowCount v.x5 v.x3)
    (h48 : w48 = uptoCount (k0_pay18 v.x3) (extractAt ![0, 0, 0] (k0_pay19 v.x5) inpos_S1x1x1_p0_0_0))
    (hm0 : m0 = chunk v.x1 (2 * (i 0).val + 0)) (hb0 : b0 = chunk v.x2 (2 * (i 0).val + 0))
    (hm1 : m1 = chunk v.x1 (2 * (i 0).val + 1)) (hb1 : b1 = chunk v.x2 (2 * (i 0).val + 1)) :
    st_k0_t3 (F := F) Variants.none c none i a.a1 a.w1 a.a2 a.w2 a.a3 a.w3 a.a4 a.w4 a.a5 a.w5 a.a6 a.w6 a.a7 a.w7 a.a8 a.w8 a.a9 a.w9 a.a10 a.w10 a.a11 a.w11 a.a12 a.w12 a.a13 a.w13 a.a14 a.w14 a.a15 a.w15 a.a16 a.w16 a.a17 a.w17 a.a18 a.w18 a.a19 a.w19 a.a20 a.w20 a.a21 a.w21 a.a22 a.w22 a.a23 a.w23 a.a24 a.w24 a.a25 a.w25 a.a26 a.w26 a.a27 a.w27 a.a28 a.w28 v5 v7 w48 hw2 v67 v84 v93 v94 v122 v125 v127 (a.w1.unread v.x1) (a.w2.unread v.x2)
        (k0_pay26 v5 v7 (iota .tc S512x1 32 [0] iota_S512x1_d0_w32) (iota .tc S1x256 32 [1] iota_S1x256_d1_w32)
          (k0_pay25 v5 v7
            (st_k0_t1 (F := F) Variants.none c none i a.a1 a.w1 a.a2 a.w2 a.a3 a.w3 a.a4 a.w4 a.a5 a.w5 a.a6 a.w6 a.a7 a.w7 a.a8 a.w8 a.a9 a.w9 a.a10 a.w10 a.a11 a.w11 a.a12 a.w12 a.a13 a.w13 a.a14 a.w14 a.a15 a.w15 a.a16 a.w16 a.a17 a.w17 a.a18 a.w18 a.a19 a.w19 a.a20 a.w20 a.a21 a.w21 a.a22 a.w22 a.a23 a.w23 a.a24 a.w24 a.a25 a.w25 a.a26 a.w26 a.a27 a.w27 a.a28 a.w28 v5 v7 w24 hw1 v41 v68 v79 v80 z (a.w1.unread v.x1) (a.w2.unread v.x2) k0_pay22
              (k0_t1_loop i w24).trips) m0 b0) m1 b1)
        (k0_t3_loop i w48).trips = allCounts i v := by
  have e24 : w24.toNat = below v := congrArg BitVec.toNat h24
  have e48 : w48.toNat = upto v := congrArg BitVec.toNat h48
  have l24 : w24.toNat ≤ 16384 := by rw [h24]; exact belowCount_le _ _
  have l48 : w48.toNat ≤ 16384 := by rw [h48]; exact uptoCount_le _ _
  rw [left_eq (h := l24) (hk := le_rfl), right_eq (h := l48) (hk := le_rfl), trips1_word i l24, trips3_word i l48, e24, e48]
  subst h5 h7 hm0 hb0 hm1 hb1
  rfl

/-- The token rows a run ends with. -/
theorem token_eq (i : grid0.Coords) (v : Ins F) (pet : Vec F S520x512 .bf16) (w1 w2 : Vec F S512x512 .bf16)
    {n : IVec S512x256 32} {x6 : Vec F S512x512 .f32} {x8 x9 x10 x12 : Vec F S1x512 .f32} {pet' : Vec F S520x512 .bf16}
    {w1' w2' : Vec F S512x512 .bf16} (hn : n = allCounts i v) (h6 : x6 = v.x6) (hw1 : w1' = w1) (h8 : x8 = v.x8) (h9 : x9 = v.x9)
    (h10 : x10 = v.x10) (hw2 : w2' = w2) (h12 : x12 = v.x12) (hp : pet' = pet) :
    k0_pay31 (k0_pay29 n) (k0_pay30 x6 w1' x8) x9 x10 w2' x12 pet' = tokenRows i v pet w1 w2 := by
  subst hn h6 hw1 h8 h9 h10 hw2 h12 hp
  rfl

/-- The two words a run's loops are bounded by. -/
theorem below_eq (a : Args) (v : Ins F) {x5 : Vec F S512x1 .i32} {x3 : Vec F S8x2048 .i32} (h5 : x5 = v.x5) (h3 : x3 = v.x3) :
    belowCount x5 x3 = belowCount v.x5 v.x3 := by rw [h5, h3]

theorem upto_eq (v : Ins F) {x5 : Vec F S512x1 .i32} {x3 : Vec F S8x2048 .i32} (h5 : x5 = v.x5) (h3 : x3 = v.x3) :
    uptoCount (k0_pay18 x3) (extractAt ![0, 0, 0] (k0_pay19 x5) inpos_S1x1x1_p0_0_0)
      = uptoCount (k0_pay18 v.x3) (extractAt ![0, 0, 0] (k0_pay19 v.x5) inpos_S1x1x1_p0_0_0) := by rw [h5, h3]

/-- The position table, the segment counts, the accumulator and the output from equal loads. -/
theorem pet_eq (v : Ins F) {x13 : Vec F S513x512 .f32} {x14 x15 x16 x18 : Vec F S1x512 .f32} {x17 : Vec F S512x512 .f32}
    (h13 : x13 = v.x13) (h14 : x14 = v.x14) (h15 : x15 = v.x15) (h16 : x16 = v.x16) (h17 : x17 = v.x17) (h18 : x18 = v.x18) :
    k0_pay13 (k0_pay10 (k0_pay8 x13 x14) (k0_pay9 x15) x16 x17 x18) (k0_pay11 x14) (k0_pay12 x15) x16 x17 x18 = petOf v := by
  subst h13 h14 h15 h16 h17 h18
  rfl

theorem counts_of_eq (v : Ins F) {y0 y1 y2 y3 y4 y5 y6 y7 : Vec F S1x2048 .i32}
    (h0 : y0 = wideChunk v.x2 0) (h1 : y1 = wideChunk v.x2 1) (h2 : y2 = wideChunk v.x2 2) (h3 : y3 = wideChunk v.x2 3)
    (h4 : y4 = wideChunk v.x2 4) (h5 : y5 = wideChunk v.x2 5) (h6 : y6 = wideChunk v.x2 6) (h7 : y7 = wideChunk v.x2 7) :
    k0_pay7 (iota .tc S64x1 32 [0] iota_S64x1_d0_w32) (k0_pay5 y0 y1 y2 y3) (k0_pay6 y4) y5 y6 y7 = countsOf v := by
  subst h0 h1 h2 h3 h4 h5 h6 h7
  rfl

theorem begin_eq (v : Ins F) {r r' : FVec F S512x512 .f32} {x5 : Vec F S512x1 .i32} (hr : r = r') (h5 : x5 = v.x5) :
    k0_pay2 r segIota x5 = k0_pay2 r' segIota v.x5 := by rw [hr, h5]

theorem add_eq (v : Ins F) {r r' : FVec F S512x512 .f32} {x5 : Vec F S512x1 .i32} {y y' : Vec F S64x512 .f32} (hr : r = r') (h5 : x5 = v.x5)
    (hy : y = y') : k0_pay3 r segIota x5 y = k0_pay3 r' segIota v.x5 y' := by rw [hr, h5, hy]

theorem out_eq (v : Ins F) (s : Scr F) {y : Vec F S64x512 .f32} {p : Vec F S512x768 .f32} {n : Vec F S64x1 .i32} {q : Vec F S513x768 .f32}
    {x20 : Vec F S1x768 .f32} {x21 : Vec F S768x512 .f32} {x22 : Vec F S1x512 .f32} (hy : y = s.acc) (hp : p = phiTop v.x19)
    (hn : n = s.cnt) (hq : q = phiBot v.x19) (h20 : x20 = v.x20) (h21 : x21 = v.x21) (h22 : x22 = v.x22) :
    k0_pay4 y p n q x20 x21 x22 = outOf v s := by
  subst hy hp hn hq h20 h21 h22
  rfl

end Cert.KernelIdeal.Gen
-- ==== Proof.KernelIdeal.Runs.lean ====
module

public import proofs.«01_k».proof.Proof.KernelIdeal.Point

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

/-- The three branch conditions of the body: the first point, a later point, the last point. -/
abbrev isFirst (i : grid0.Coords) : Prop := (Scalar.cmpi .ne (Scalar.extui (Scalar.cmpi .eq (BitVec.ofNat 32 (i 0).val) 0#32)) 0#32) = 1#1
abbrev isLater (i : grid0.Coords) : Prop := (Scalar.cmpi .ne (Scalar.extui (Scalar.cmpi .ne (BitVec.ofNat 32 (i 0).val) 0#32)) 0#32) = 1#1
abbrev isLast (i : grid0.Coords) : Prop := k0_cond4 i = 1#1

set_option maxHeartbeats 1600000 in
/-- The body at a point that is neither the first nor the last: it adds the block's sums to the accumulator. -/
theorem run_middle (c : Dev nD) (i : grid0.Coords) (a : Args) (v : Ins F) (s : Scr F) (o : Vec F S64x512 .f32)
    (hc0 : ¬isFirst i) (hc2 : isLater i) (hc3 : ¬isLast i) (E : Set ℕ) (K : PUnit → sProp 𝕄) :
    iprop(insAt c a v ∗ at_ c a.w23 o ∗ scrAt c a s ∗ (iprop(insAt c a v ∗ at_ c a.w23 o ∗ scrAt c a (nextScr i v s)) -∗ K ⟨⟩))
      ⊢ wp frame (wpE (defs₀ (F := F)) Variants.none c none) E (bodyOn i a) K := by
  unfold bodyOn insAt scrAt at_
  simp only [cc0__body_eq_skeleton]; unfold cc0__body_skel
  simp only [k0_part5_eq_skeleton, k0_part6_eq_skeleton, k0_part7_eq_skeleton, k0_part8_eq_skeleton]
  iintro ⟨⟨H1, H2, H3, H4, H5, H6, H7, H8, H9, H10, H11, H12, H13, H14, H15, H16, H17, H18, H19, H20, H21, H22⟩, HO, ⟨S24, S25, S26, S27, S28⟩, Hk⟩
  sl_exec (disch := first | (with_reducible refine chk1_of (F := F) i ?_; exact ⟨_, _, rfl⟩) | (with_reducible refine chk2_of i ?_; exact ⟨_, _, rfl⟩) | sl_exact hc0 | sl_exact hc2 | sl_exact hc3)
  sl_step
  iapply Hk
  isplitl [H1 H2 H3 H4 H5 H6 H7 H8 H9 H10 H11 H12 H13 H14 H15 H16 H17 H18 H19 H20 H21 H22]
  · isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    iexact H22
  isplitl [HO]; · iexact HO
  isplitl [S24]; · iexact S24
  isplitl [S25]; · iexact S25
  isplitl [S26]; · iexact S26
  isplitl [S27]
  · iapply (at_of_store c a.w27 _ _ _ _ _ ?_)
    rotate_left
    · iexact S27
    unfold nextScr
    dsimp only
    rw [read_all a.w5, read_all a.w27]
    refine congrArg (fun y => k0_pay3 y segIota v.x5 s.acc) ?_
    exact token_eq i v s.pet s.w1 s.w2
      (counts_eq c i a v (congrArg k0_pay16 (read_all a.w4 v.x4 _)) (congrArg k0_pay17 (read_all a.w5 v.x5 _))
        (below_eq a v (read_all a.w5 v.x5 _) (read_all a.w3 v.x3 _)) (upto_eq v (read_all a.w5 v.x5 _) (read_all a.w3 v.x3 _))
        (read_chunk a.w1 v.x1 _ _ (off3_eq i 0)) (read_chunk a.w2 v.x2 _ _ (off3_eq i 0))
        (read_chunk a.w1 v.x1 _ _ (off3_eq i 1)) (read_chunk a.w2 v.x2 _ _ (off3_eq i 1)))
      (read_all a.w6 v.x6 _) (read_all a.w25 s.w1 _) (read_all a.w8 v.x8 _) (read_all a.w9 v.x9 _) (read_all a.w10 v.x10 _)
      (read_all a.w26 s.w2 _) (read_all a.w12 v.x12 _) (read_all a.w24 s.pet _)
  iexact S28

set_option maxHeartbeats 3200000 in
/-- The body at the first point: whatever the scratch held, it is set up, and the accumulator is begun. -/
theorem run_first (c : Dev nD) (i : grid0.Coords) (a : Args) (v : Ins F) (s : Scr F) (o : Vec F S64x512 .f32)
    (hc0 : isFirst i) (hc2 : ¬isLater i) (hc3 : ¬isLast i) (E : Set ℕ) (K : PUnit → sProp 𝕄) :
    iprop(insAt c a v ∗ at_ c a.w23 o ∗ scrAt c a s ∗ (iprop(insAt c a v ∗ at_ c a.w23 o ∗ scrAt c a (firstScr i v)) -∗ K ⟨⟩))
      ⊢ wp frame (wpE (defs₀ (F := F)) Variants.none c none) E (bodyOn i a) K := by
  unfold bodyOn insAt scrAt at_
  simp only [cc0__body_eq_skeleton]; unfold cc0__body_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton]
  iintro ⟨⟨H1, H2, H3, H4, H5, H6, H7, H8, H9, H10, H11, H12, H13, H14, H15, H16, H17, H18, H19, H20, H21, H22⟩, HO, ⟨S24, S25, S26, S27, S28⟩, Hk⟩
  sl_exec (disch := first | (with_reducible refine chk1_of (F := F) i ?_; exact ⟨_, _, rfl⟩) | (with_reducible refine chk2_of i ?_; exact ⟨_, _, rfl⟩) | sl_exact hc0 | sl_exact hc2 | sl_exact hc3)
  sl_step
  iapply Hk
  isplitl [H1 H2 H3 H4 H5 H6 H7 H8 H9 H10 H11 H12 H13 H14 H15 H16 H17 H18 H19 H20 H21 H22]
  · isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    iexact H22
  isplitl [HO]; · iexact HO
  isplitl [S24]
  · iapply (at_of_store c a.w24 _ _ _ _ _ ?_)
    rotate_left
    · iexact S24
    exact pet_eq v (read_all a.w13 v.x13 _) (read_all a.w14 v.x14 _) (read_all a.w15 v.x15 _) (read_all a.w16 v.x16 _) (read_all a.w17 v.x17 _) (read_all a.w18 v.x18 _)
  isplitl [S25]
  · iapply (at_of_store c a.w25 _ _ _ _ _ ?_)
    rotate_left
    · iexact S25
    exact congrArg k0_pay14 (read_all a.w7 v.x7 _)
  isplitl [S26]
  · iapply (at_of_store c a.w26 _ _ _ _ _ ?_)
    rotate_left
    · iexact S26
    exact congrArg k0_pay15 (read_all a.w11 v.x11 _)
  isplitl [S27]
  · iapply (at_of_store c a.w27 _ _ _ _ _ ?_)
    rotate_left
    · iexact S27
    exact begin_eq v (token_eq i v (petOf v) (k0_pay14 v.x7) (k0_pay15 v.x11)
      (counts_eq c i a v (congrArg k0_pay16 (read_all a.w4 v.x4 _)) (congrArg k0_pay17 (read_all a.w5 v.x5 _))
        (below_eq a v (read_all a.w5 v.x5 _) (read_all a.w3 v.x3 _)) (upto_eq v (read_all a.w5 v.x5 _) (read_all a.w3 v.x3 _))
        (read_chunk a.w1 v.x1 _ _ (off3_eq i 0)) (read_chunk a.w2 v.x2 _ _ (off3_eq i 0))
        (read_chunk a.w1 v.x1 _ _ (off3_eq i 1)) (read_chunk a.w2 v.x2 _ _ (off3_eq i 1)))
      (read_all a.w6 v.x6 _) (read_stored _ _ [] (congrArg k0_pay14 (read_all a.w7 v.x7 _))) (read_all a.w8 v.x8 _) (read_all a.w9 v.x9 _) (read_all a.w10 v.x10 _)
      (read_stored _ _ [] (congrArg k0_pay15 (read_all a.w11 v.x11 _))) (read_all a.w12 v.x12 _) (read_stored _ _ [] (pet_eq v (read_all a.w13 v.x13 _) (read_all a.w14 v.x14 _) (read_all a.w15 v.x15 _) (read_all a.w16 v.x16 _) (read_all a.w17 v.x17 _) (read_all a.w18 v.x18 _)))) (read_all a.w5 v.x5 _)
  · iapply (at_of_store c a.w28 _ _ _ _ _ ?_)
    rotate_left
    · iexact S28
    exact counts_of_eq v (read_wide a.w2 v.x2 0 0 _ rfl)
        (read_wide a.w2 v.x2 2048 1 _ rfl)
        (read_wide a.w2 v.x2 4096 2 _ rfl)
        (read_wide a.w2 v.x2 6144 3 _ rfl)
        (read_wide a.w2 v.x2 8192 4 _ rfl)
        (read_wide a.w2 v.x2 10240 5 _ rfl)
        (read_wide a.w2 v.x2 12288 6 _ rfl)
        (read_wide a.w2 v.x2 14336 7 _ rfl)

set_option maxHeartbeats 1600000 in
/-- The body at a point that is the last: it adds the block's sums to the accumulator and writes the output. -/
theorem run_last (c : Dev nD) (i : grid0.Coords) (a : Args) (v : Ins F) (s : Scr F) (o : Vec F S64x512 .f32)
    (hc0 : ¬isFirst i) (hc2 : isLater i) (hc3 : isLast i) (E : Set ℕ) (K : PUnit → sProp 𝕄) :
    iprop(insAt c a v ∗ at_ c a.w23 o ∗ scrAt c a s ∗ (iprop(insAt c a v ∗ at_ c a.w23 (outOf v (nextScr i v s)) ∗ scrAt c a (nextScr i v s)) -∗ K ⟨⟩))
      ⊢ wp frame (wpE (defs₀ (F := F)) Variants.none c none) E (bodyOn i a) K := by
  unfold bodyOn insAt scrAt at_
  simp only [cc0__body_eq_skeleton]; unfold cc0__body_skel
  simp only [k0_part5_eq_skeleton, k0_part6_eq_skeleton, k0_part7_eq_skeleton, k0_part8_eq_skeleton]
  iintro ⟨⟨H1, H2, H3, H4, H5, H6, H7, H8, H9, H10, H11, H12, H13, H14, H15, H16, H17, H18, H19, H20, H21, H22⟩, HO, ⟨S24, S25, S26, S27, S28⟩, Hk⟩
  sl_exec (disch := first | (with_reducible refine chk1_of (F := F) i ?_; exact ⟨_, _, rfl⟩) | (with_reducible refine chk2_of i ?_; exact ⟨_, _, rfl⟩) | sl_exact hc0 | sl_exact hc2 | sl_exact hc3)
  sl_step
  iapply Hk
  isplitl [H1 H2 H3 H4 H5 H6 H7 H8 H9 H10 H11 H12 H13 H14 H15 H16 H17 H18 H19 H20 H21 H22]
  · isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    iexact H22
  isplitl [HO]
  · iapply (at_of_store c a.w23 _ _ _ _ _ ?_)
    rotate_left
    · iexact HO
    exact out_eq v (nextScr i v s) (read_stored _ _ [] (add_eq v (token_eq i v s.pet s.w1 s.w2
      (counts_eq c i a v (congrArg k0_pay16 (read_all a.w4 v.x4 _)) (congrArg k0_pay17 (read_all a.w5 v.x5 _))
        (below_eq a v (read_all a.w5 v.x5 _) (read_all a.w3 v.x3 _)) (upto_eq v (read_all a.w5 v.x5 _) (read_all a.w3 v.x3 _))
        (read_chunk a.w1 v.x1 _ _ (off3_eq i 0)) (read_chunk a.w2 v.x2 _ _ (off3_eq i 0))
        (read_chunk a.w1 v.x1 _ _ (off3_eq i 1)) (read_chunk a.w2 v.x2 _ _ (off3_eq i 1)))
      (read_all a.w6 v.x6 _) (read_all a.w25 s.w1 _) (read_all a.w8 v.x8 _) (read_all a.w9 v.x9 _) (read_all a.w10 v.x10 _)
      (read_all a.w26 s.w2 _) (read_all a.w12 v.x12 _) (read_all a.w24 s.pet _)) (read_all a.w5 v.x5 _) (read_all a.w27 s.acc _)))
      (read_top a.w19 v.x19 _) (read_all a.w28 s.cnt _) (read_bot a.w19 v.x19 _) (read_all a.w20 v.x20 _) (read_all a.w21 v.x21 _) (read_all a.w22 v.x22 _)
  isplitl [S24]; · iexact S24
  isplitl [S25]; · iexact S25
  isplitl [S26]; · iexact S26
  isplitl [S27]
  · iapply (at_of_store c a.w27 _ _ _ _ _ ?_)
    rotate_left
    · iexact S27
    unfold nextScr
    dsimp only
    rw [read_all a.w5, read_all a.w27]
    refine congrArg (fun y => k0_pay3 y segIota v.x5 s.acc) ?_
    exact token_eq i v s.pet s.w1 s.w2
      (counts_eq c i a v (congrArg k0_pay16 (read_all a.w4 v.x4 _)) (congrArg k0_pay17 (read_all a.w5 v.x5 _))
        (below_eq a v (read_all a.w5 v.x5 _) (read_all a.w3 v.x3 _)) (upto_eq v (read_all a.w5 v.x5 _) (read_all a.w3 v.x3 _))
        (read_chunk a.w1 v.x1 _ _ (off3_eq i 0)) (read_chunk a.w2 v.x2 _ _ (off3_eq i 0))
        (read_chunk a.w1 v.x1 _ _ (off3_eq i 1)) (read_chunk a.w2 v.x2 _ _ (off3_eq i 1)))
      (read_all a.w6 v.x6 _) (read_all a.w25 s.w1 _) (read_all a.w8 v.x8 _) (read_all a.w9 v.x9 _) (read_all a.w10 v.x10 _)
      (read_all a.w26 s.w2 _) (read_all a.w12 v.x12 _) (read_all a.w24 s.pet _)
  iexact S28

end Cert.KernelIdeal.Gen
-- ==== Proof.KernelIdeal.Region.lean ====
module

public import proofs.«01_k».proof.Proof.KernelIdeal.Runs
public import proofs.«01_k».proof.Proof.Gen.KernelIdeal.Frame
public import Idealize.ShloMosaic.Lib.Claim

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The points -/

/-- The first point is point 0, -/
theorem isFirst_iff (t : Fin cfg0.N) : isFirst (grid0.coords t) ↔ t.val = 0 := by
  have ht : t.val < 32 := Nat.lt_of_lt_of_eq t.isLt N_0
  have e0 : (grid0.coords t 0).val = t.val / 1 % 32 := Pipeline.Grid.coords_val t 0 (by decide) rfl
  simp only [isFirst, e0]
  word_cmp

/-- the later points are the others, -/
theorem isLater_iff (t : Fin cfg0.N) : isLater (grid0.coords t) ↔ t.val ≠ 0 := by
  have ht : t.val < 32 := Nat.lt_of_lt_of_eq t.isLt N_0
  have e0 : (grid0.coords t 0).val = t.val / 1 % 32 := Pipeline.Grid.coords_val t 0 (by decide) rfl
  simp only [isLater, e0]
  word_cmp

/-- and the last point is point 31. -/
theorem isLast_iff (t : Fin cfg0.N) : isLast (grid0.coords t) ↔ t.val = 31 := by
  have ht : t.val < 32 := Nat.lt_of_lt_of_eq t.isLt N_0
  have e0 : (grid0.coords t 0).val = t.val / 1 % 32 := Pipeline.Grid.coords_val t 0 (by decide) rfl
  simp only [isLast, k0_cond4, e0]
  word_cmp

/-- The output is left alone before the last point, -/
theorem out_idle : ∀ t : Fin cfg0.N, t.val ≠ 31 → cfg0.idle 22 (grid0.coords t) = true := by decide +kernel

/-- not written back there, -/
theorem out_kept : ∀ t : Fin cfg0.N, t.val ≠ 31 → (cfg0.win 22).flush t = false := by decide +kernel

/-- and written at the last. -/
theorem out_live : ∀ t : Fin cfg0.N, t.val = 31 → cfg0.idle 22 (grid0.coords t) = false := by decide +kernel

/-- The buffers the body is run on at a point. -/
def stageOf (t : Fin cfg0.N) : Args :=
  ⟨win0_0.stage (cfg0.slots t 0), hstage0_0 ((cfg0.slots t 0).cast nbuf0_0), win0_1.stage (cfg0.slots t 1), hstage0_1 ((cfg0.slots t 1).cast nbuf0_1), win0_2.stage (cfg0.slots t 2), hstage0_2 ((cfg0.slots t 2).cast nbuf0_2), win0_3.stage (cfg0.slots t 3), hstage0_3 ((cfg0.slots t 3).cast nbuf0_3), win0_4.stage (cfg0.slots t 4), hstage0_4 ((cfg0.slots t 4).cast nbuf0_4), win0_5.stage (cfg0.slots t 5), hstage0_5 ((cfg0.slots t 5).cast nbuf0_5), win0_6.stage (cfg0.slots t 6), hstage0_6 ((cfg0.slots t 6).cast nbuf0_6), win0_7.stage (cfg0.slots t 7), hstage0_7 ((cfg0.slots t 7).cast nbuf0_7), win0_8.stage (cfg0.slots t 8), hstage0_8 ((cfg0.slots t 8).cast nbuf0_8), win0_9.stage (cfg0.slots t 9), hstage0_9 ((cfg0.slots t 9).cast nbuf0_9), win0_10.stage (cfg0.slots t 10), hstage0_10 ((cfg0.slots t 10).cast nbuf0_10), win0_11.stage (cfg0.slots t 11), hstage0_11 ((cfg0.slots t 11).cast nbuf0_11), win0_12.stage (cfg0.slots t 12), hstage0_12 ((cfg0.slots t 12).cast nbuf0_12), win0_13.stage (cfg0.slots t 13), hstage0_13 ((cfg0.slots t 13).cast nbuf0_13), win0_14.stage (cfg0.slots t 14), hstage0_14 ((cfg0.slots t 14).cast nbuf0_14), win0_15.stage (cfg0.slots t 15), hstage0_15 ((cfg0.slots t 15).cast nbuf0_15), win0_16.stage (cfg0.slots t 16), hstage0_16 ((cfg0.slots t 16).cast nbuf0_16), win0_17.stage (cfg0.slots t 17), hstage0_17 ((cfg0.slots t 17).cast nbuf0_17), win0_18.stage (cfg0.slots t 18), hstage0_18 ((cfg0.slots t 18).cast nbuf0_18), win0_19.stage (cfg0.slots t 19), hstage0_19 ((cfg0.slots t 19).cast nbuf0_19), win0_20.stage (cfg0.slots t 20), hstage0_20 ((cfg0.slots t 20).cast nbuf0_20), win0_21.stage (cfg0.slots t 21), hstage0_21 ((cfg0.slots t 21).cast nbuf0_21), win0_22.stage (cfg0.slots t 22), hstage0_22 ((cfg0.slots t 22).cast nbuf0_22), Memref.whole cc0_scratch0, Memref.isWhole_whole _, Memref.whole cc0_scratch1, Memref.isWhole_whole _, Memref.whole cc0_scratch2, Memref.isWhole_whole _, Memref.whole cc0_scratch3, Memref.isWhole_whole _, Memref.whole cc0_scratch4, Memref.isWhole_whole _⟩

/-- What the inputs hold at a point. -/
def insOf (c : Dev nD) (t : Fin cfg0.N) : Ins F where
  x1 := iblk m c 0 t
  x2 := iblk m c 1 t
  x3 := iblk m c 2 t
  x4 := iblk m c 3 t
  x5 := iblk m c 4 t
  x6 := iblk m c 5 t
  x7 := iblk m c 6 t
  x8 := iblk m c 7 t
  x9 := iblk m c 8 t
  x10 := iblk m c 9 t
  x11 := iblk m c 10 t
  x12 := iblk m c 11 t
  x13 := iblk m c 12 t
  x14 := iblk m c 13 t
  x15 := iblk m c 14 t
  x16 := iblk m c 15 t
  x17 := iblk m c 16 t
  x18 := iblk m c 17 t
  x19 := iblk m c 18 t
  x20 := iblk m c 19 t
  x21 := iblk m c 20 t
  x22 := iblk m c 21 t

/-- What the scratch holds after point `n`. -/
def scrAfter (c : Dev nD) : (n : ℕ) → n < cfg0.N → Scr F
  | 0, h => firstScr (grid0.coords ⟨0, h⟩) (insOf m c ⟨0, h⟩)
  | n + 1, h => nextScr (grid0.coords ⟨n + 1, h⟩) (insOf m c ⟨n + 1, h⟩) (scrAfter c n (Nat.lt_of_succ_lt h))

/-- The scratch buffers at their contents. -/
def heldAt (c : Dev nD) (s : Scr F) : sProp 𝕄 :=
  iprop((owns (c : Thread nD τ) (Memref.whole cc0_scratch0) fullShare s.pet ∗ owns (c : Thread nD τ) (Memref.whole cc0_scratch1) fullShare s.w1
    ∗ owns (c : Thread nD τ) (Memref.whole cc0_scratch2) fullShare s.w2 ∗ owns (c : Thread nD τ) (Memref.whole cc0_scratch3) fullShare s.acc
    ∗ owns (c : Thread nD τ) (Memref.whole cc0_scratch4) fullShare s.cnt) ∗ (∃ r, prngReg c r))

/-- Before the first point the scratch holds anything. -/
theorem free_eq (c : Dev nD) :
    (Pipeline.ΦA spec0 c : sProp 𝕄)
      = iprop(((∃ d, owns (c : Thread nD τ) (Memref.whole cc0_scratch0) fullShare d) ∗ (∃ d, owns (c : Thread nD τ) (Memref.whole cc0_scratch1) fullShare d)
        ∗ (∃ d, owns (c : Thread nD τ) (Memref.whole cc0_scratch2) fullShare d) ∗ (∃ d, owns (c : Thread nD τ) (Memref.whole cc0_scratch3) fullShare d)
        ∗ (∃ d, owns (c : Thread nD τ) (Memref.whole cc0_scratch4) fullShare d)) ∗ (∃ r, prngReg c r)) := by
  unfold Pipeline.ΦA
  rw [scopedRest0_eq]
  simp only [owns_whole]
  try rfl

/-- The invariant before point `n`: free scratch at the start, then what the point before left. -/
def inv (c : Dev nD) : (n : ℕ) → n ≤ cfg0.N → sProp 𝕄
  | 0, _ => Pipeline.ΦA spec0 c
  | n + 1, h => heldAt c (scrAfter m c n h)

/-- The launch's proof data: the arrays as the region finds them, the inputs left as they are, the output as the last point makes it. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => iblk m c 21 t
    | ⟨22, _⟩ => outOf (insOf m c t) (scrAfter m c t.val t.isLt)
    | ⟨_ + 23, h⟩ => absurd h (Nat.not_lt.2 (Nat.le_add_left _ _))
  Φ t := inv m c t.val (Nat.le_of_lt_succ t.isLt)
  q _ := fullShare
  owed _ := 0

theorem A_eq (c : Dev nD) (w : Fin cfg0.W) : (dats m 0 c).A w = V m c (Pipeline.arrRef spec0 w) := by dsimp only [dats]

theorem inv_castSucc (c : Dev nD) (t : Fin cfg0.N) : (dats m 0 c).Φ t.castSucc = inv m c t.val (Nat.le_of_lt t.isLt) := by
  dsimp only [dats]; exact Pipeline.Dat.Φ_castSucc (inv m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = iblk m c 17 t := by dsimp only [dats]
theorem after0_18 (c : Dev nD) (t : Fin cfg0.N) : (dats m 0 c).after 18 t = iblk m c 18 t := by dsimp only [dats]
theorem after0_19 (c : Dev nD) (t : Fin cfg0.N) : (dats m 0 c).after 19 t = iblk m c 19 t := by dsimp only [dats]
theorem after0_20 (c : Dev nD) (t : Fin cfg0.N) : (dats m 0 c).after 20 t = iblk m c 20 t := by dsimp only [dats]
theorem after0_21 (c : Dev nD) (t : Fin cfg0.N) : (dats m 0 c).after 21 t = iblk m c 21 t := by dsimp only [dats]
theorem after0_22 (c : Dev nD) (t : Fin cfg0.N) : (dats m 0 c).after 22 t = outOf (insOf m c t) (scrAfter m c t.val t.isLt) := by dsimp only [dats]

/-- A window that is live is left at what the proof data say. -/
theorem leaves_of (c : Dev nD) (t : Fin cfg0.N) (w : Fin cfg0.W) {x} (hl : cfg0.idle w (grid0.coords t) = false)
    (hx : (dats m 0 c).after w t = x) :
    (dats m 0 c).leavesExact w t = owns (c : Thread nD τ) ((cfg0.win w).stage (cfg0.slots t w)) fullShare x := by
  unfold Dat.leavesExact
  rw [hl, hx]

/-- What the body is called with at a point besides the scratch: nothing owed, and the windows' buffers, -/
def bodyRest (c : Dev nD) (t : Fin cfg0.N) : sProp 𝕄 :=
  iprop((dats m 0 c).owesAt () t.castSucc
    ∗ (∃ d, owns (c : Thread nD τ) (stageOf t).a1 fullShare ((dats m 0 c).before 0 t d))
    ∗ (∃ d, owns (c : Thread nD τ) (stageOf t).a2 fullShare ((dats m 0 c).before 1 t d))
    ∗ (∃ d, owns (c : Thread nD τ) (stageOf t).a3 fullShare ((dats m 0 c).before 2 t d))
    ∗ (∃ d, owns (c : Thread nD τ) (stageOf t).a4 fullShare ((dats m 0 c).before 3 t d))
    ∗ (∃ d, owns (c : Thread nD τ) (stageOf t).a5 fullShare ((dats m 0 c).before 4 t d))
    ∗ (∃ d, owns (c : Thread nD τ) (stageOf t).a6 fullShare ((dats m 0 c).before 5 t d))
    ∗ (∃ d, owns (c : Thread nD τ) (stageOf t).a7 fullShare ((dats m 0 c).before 6 t d))
    ∗ (∃ d, owns (c : Thread nD τ) (stageOf t).a8 fullShare ((dats m 0 c).before 7 t d))
    ∗ (∃ d, owns (c : Thread nD τ) (stageOf t).a9 fullShare ((dats m 0 c).before 8 t d))
    ∗ (∃ d, owns (c : Thread nD τ) (stageOf t).a10 fullShare ((dats m 0 c).before 9 t d))
    ∗ (∃ d, owns (c : Thread nD τ) (stageOf t).a11 fullShare ((dats m 0 c).before 10 t d))
    ∗ (∃ d, owns (c : Thread nD τ) (stageOf t).a12 fullShare ((dats m 0 c).before 11 t d))
    ∗ (∃ d, owns (c : Thread nD τ) (stageOf t).a13 fullShare ((dats m 0 c).before 12 t d))
    ∗ (∃ d, owns (c : Thread nD τ) (stageOf t).a14 fullShare ((dats m 0 c).before 13 t d))
    ∗ (∃ d, owns (c : Thread nD τ) (stageOf t).a15 fullShare ((dats m 0 c).before 14 t d))
    ∗ (∃ d, owns (c : Thread nD τ) (stageOf t).a16 fullShare ((dats m 0 c).before 15 t d))
    ∗ (∃ d, owns (c : Thread nD τ) (stageOf t).a17 fullShare ((dats m 0 c).before 16 t d))
    ∗ (∃ d, owns (c : Thread nD τ) (stageOf t).a18 fullShare ((dats m 0 c).before 17 t d))
    ∗ (∃ d, owns (c : Thread nD τ) (stageOf t).a19 fullShare ((dats m 0 c).before 18 t d))
    ∗ (∃ d, owns (c : Thread nD τ) (stageOf t).a20 fullShare ((dats m 0 c).before 19 t d))
    ∗ (∃ d, owns (c : Thread nD τ) (stageOf t).a21 fullShare ((dats m 0 c).before 20 t d))
    ∗ (∃ d, owns (c : Thread nD τ) (stageOf t).a22 fullShare ((dats m 0 c).before 21 t d))
    ∗ (∃ d, owns (c : Thread nD τ) (stageOf t).a23 fullShare ((dats m 0 c).before 22 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t
    ∗ (dats m 0 c).leavesExact 15 t
    ∗ (dats m 0 c).leavesExact 16 t
    ∗ (dats m 0 c).leavesExact 17 t
    ∗ (dats m 0 c).leavesExact 18 t
    ∗ (dats m 0 c).leavesExact 19 t
    ∗ (dats m 0 c).leavesExact 20 t
    ∗ (dats m 0 c).leavesExact 21 t
    ∗ (dats m 0 c).leavesExact 22 t)

set_option maxHeartbeats 1600000 in
/-- A point's obligation from a run of the body: the run takes the scratch from `s` to `s'` and the output from `o` to `out o`. -/
theorem point_of_run (c : Dev nD) (t : Fin cfg0.N) (s s' : Scr F) (out : Vec F S64x512 .f32 → Vec F S64x512 .f32)
    (hrun : ∀ o (K : PUnit → sProp 𝕄),
      iprop(insAt c (stageOf t) (insOf m c t) ∗ at_ c (stageOf t).w23 o ∗ scrAt c (stageOf t) s
          ∗ (iprop(insAt c (stageOf t) (insOf m c t) ∗ at_ c (stageOf t).w23 (out o) ∗ scrAt c (stageOf t) s') -∗ K ⟨⟩))
        ⊢ wp frame (wpE (defs₀ (F := F)) Variants.none c none) Set.univ (bodyOn (grid0.coords t) (stageOf t)) K)
    (hpost : (dats m 0 c).Φ t.succ = heldAt c s')
    (hout : ∀ d, (owns (c : Thread nD τ) (stageOf t).a23 fullShare (out ((dats m 0 c).before 22 t d)) : sProp 𝕄)
      ⊢ (dats m 0 c).leavesExact 22 t) :
    iprop(heldAt c s ∗ bodyRest m c t) ⊢ wp frame (wpE (defs₀ (F := F)) Variants.none c none) Set.univ (bodyAt0 t) (fun _ => bodyPost m c t) := by
  have hq : bodyPost m c t = iprop((dats m 0 c).Φ t.succ ∗ (dats m 0 c).owesAt () t.succ
    ∗ owns (c : Thread nD τ) (stageOf t).a1 fullShare (insOf m c t).x1
    ∗ owns (c : Thread nD τ) (stageOf t).a2 fullShare (insOf m c t).x2
    ∗ owns (c : Thread nD τ) (stageOf t).a3 fullShare (insOf m c t).x3
    ∗ owns (c : Thread nD τ) (stageOf t).a4 fullShare (insOf m c t).x4
    ∗ owns (c : Thread nD τ) (stageOf t).a5 fullShare (insOf m c t).x5
    ∗ owns (c : Thread nD τ) (stageOf t).a6 fullShare (insOf m c t).x6
    ∗ owns (c : Thread nD τ) (stageOf t).a7 fullShare (insOf m c t).x7
    ∗ owns (c : Thread nD τ) (stageOf t).a8 fullShare (insOf m c t).x8
    ∗ owns (c : Thread nD τ) (stageOf t).a9 fullShare (insOf m c t).x9
    ∗ owns (c : Thread nD τ) (stageOf t).a10 fullShare (insOf m c t).x10
    ∗ owns (c : Thread nD τ) (stageOf t).a11 fullShare (insOf m c t).x11
    ∗ owns (c : Thread nD τ) (stageOf t).a12 fullShare (insOf m c t).x12
    ∗ owns (c : Thread nD τ) (stageOf t).a13 fullShare (insOf m c t).x13
    ∗ owns (c : Thread nD τ) (stageOf t).a14 fullShare (insOf m c t).x14
    ∗ owns (c : Thread nD τ) (stageOf t).a15 fullShare (insOf m c t).x15
    ∗ owns (c : Thread nD τ) (stageOf t).a16 fullShare (insOf m c t).x16
    ∗ owns (c : Thread nD τ) (stageOf t).a17 fullShare (insOf m c t).x17
    ∗ owns (c : Thread nD τ) (stageOf t).a18 fullShare (insOf m c t).x18
    ∗ owns (c : Thread nD τ) (stageOf t).a19 fullShare (insOf m c t).x19
    ∗ owns (c : Thread nD τ) (stageOf t).a20 fullShare (insOf m c t).x20
    ∗ owns (c : Thread nD τ) (stageOf t).a21 fullShare (insOf m c t).x21
    ∗ owns (c : Thread nD τ) (stageOf t).a22 fullShare (insOf m c t).x22
    ∗ (dats m 0 c).leavesExact 22 t) := by
    have l0 : (dats m 0 c).leavesExact 0 t = owns (c : Thread nD τ) (stageOf t).a1 fullShare (insOf m c t).x1 := leaves_of m c t 0 rfl (after0_0 m c t)
    have l1 : (dats m 0 c).leavesExact 1 t = owns (c : Thread nD τ) (stageOf t).a2 fullShare (insOf m c t).x2 := leaves_of m c t 1 rfl (after0_1 m c t)
    have l2 : (dats m 0 c).leavesExact 2 t = owns (c : Thread nD τ) (stageOf t).a3 fullShare (insOf m c t).x3 := leaves_of m c t 2 rfl (after0_2 m c t)
    have l3 : (dats m 0 c).leavesExact 3 t = owns (c : Thread nD τ) (stageOf t).a4 fullShare (insOf m c t).x4 := leaves_of m c t 3 rfl (after0_3 m c t)
    have l4 : (dats m 0 c).leavesExact 4 t = owns (c : Thread nD τ) (stageOf t).a5 fullShare (insOf m c t).x5 := leaves_of m c t 4 rfl (after0_4 m c t)
    have l5 : (dats m 0 c).leavesExact 5 t = owns (c : Thread nD τ) (stageOf t).a6 fullShare (insOf m c t).x6 := leaves_of m c t 5 rfl (after0_5 m c t)
    have l6 : (dats m 0 c).leavesExact 6 t = owns (c : Thread nD τ) (stageOf t).a7 fullShare (insOf m c t).x7 := leaves_of m c t 6 rfl (after0_6 m c t)
    have l7 : (dats m 0 c).leavesExact 7 t = owns (c : Thread nD τ) (stageOf t).a8 fullShare (insOf m c t).x8 := leaves_of m c t 7 rfl (after0_7 m c t)
    have l8 : (dats m 0 c).leavesExact 8 t = owns (c : Thread nD τ) (stageOf t).a9 fullShare (insOf m c t).x9 := leaves_of m c t 8 rfl (after0_8 m c t)
    have l9 : (dats m 0 c).leavesExact 9 t = owns (c : Thread nD τ) (stageOf t).a10 fullShare (insOf m c t).x10 := leaves_of m c t 9 rfl (after0_9 m c t)
    have l10 : (dats m 0 c).leavesExact 10 t = owns (c : Thread nD τ) (stageOf t).a11 fullShare (insOf m c t).x11 := leaves_of m c t 10 rfl (after0_10 m c t)
    have l11 : (dats m 0 c).leavesExact 11 t = owns (c : Thread nD τ) (stageOf t).a12 fullShare (insOf m c t).x12 := leaves_of m c t 11 rfl (after0_11 m c t)
    have l12 : (dats m 0 c).leavesExact 12 t = owns (c : Thread nD τ) (stageOf t).a13 fullShare (insOf m c t).x13 := leaves_of m c t 12 rfl (after0_12 m c t)
    have l13 : (dats m 0 c).leavesExact 13 t = owns (c : Thread nD τ) (stageOf t).a14 fullShare (insOf m c t).x14 := leaves_of m c t 13 rfl (after0_13 m c t)
    have l14 : (dats m 0 c).leavesExact 14 t = owns (c : Thread nD τ) (stageOf t).a15 fullShare (insOf m c t).x15 := leaves_of m c t 14 rfl (after0_14 m c t)
    have l15 : (dats m 0 c).leavesExact 15 t = owns (c : Thread nD τ) (stageOf t).a16 fullShare (insOf m c t).x16 := leaves_of m c t 15 rfl (after0_15 m c t)
    have l16 : (dats m 0 c).leavesExact 16 t = owns (c : Thread nD τ) (stageOf t).a17 fullShare (insOf m c t).x17 := leaves_of m c t 16 rfl (after0_16 m c t)
    have l17 : (dats m 0 c).leavesExact 17 t = owns (c : Thread nD τ) (stageOf t).a18 fullShare (insOf m c t).x18 := leaves_of m c t 17 rfl (after0_17 m c t)
    have l18 : (dats m 0 c).leavesExact 18 t = owns (c : Thread nD τ) (stageOf t).a19 fullShare (insOf m c t).x19 := leaves_of m c t 18 rfl (after0_18 m c t)
    have l19 : (dats m 0 c).leavesExact 19 t = owns (c : Thread nD τ) (stageOf t).a20 fullShare (insOf m c t).x20 := leaves_of m c t 19 rfl (after0_19 m c t)
    have l20 : (dats m 0 c).leavesExact 20 t = owns (c : Thread nD τ) (stageOf t).a21 fullShare (insOf m c t).x21 := leaves_of m c t 20 rfl (after0_20 m c t)
    have l21 : (dats m 0 c).leavesExact 21 t = owns (c : Thread nD τ) (stageOf t).a22 fullShare (insOf m c t).x22 := leaves_of m c t 21 rfl (after0_21 m c t)
    unfold bodyPost
    rw [l0, l1, l2, l3, l4, l5, l6, l7, l8, l9, l10, l11, l12, l13, l14, l15, l16, l17, l18, l19, l20, l21]
  have h24 := owns_at (F := F) c (stageOf t).w24
  have h25 := owns_at (F := F) c (stageOf t).w25
  have h26 := owns_at (F := F) c (stageOf t).w26
  have h27 := owns_at (F := F) c (stageOf t).w27
  have h28 := owns_at (F := F) c (stageOf t).w28
  have hh : ∀ s : Scr F, heldAt c s = iprop(scrAt c (stageOf t) s ∗ (∃ r, prngReg c r)) := fun s => by
    rw [scrAt, ← h24, ← h25, ← h26, ← h27, ← h28]; rfl
  have b0 : ∀ d, (dats m 0 c).before 0 t d = (insOf m c t).x1 := before0_0_of m (dats m 0 c) (A_eq m c 0) (after0_0 m c) t
  have b1 : ∀ d, (dats m 0 c).before 1 t d = (insOf m c t).x2 := before0_1_of m (dats m 0 c) (A_eq m c 1) (after0_1 m c) t
  have b2 : ∀ d, (dats m 0 c).before 2 t d = (insOf m c t).x3 := before0_2_of m (dats m 0 c) (A_eq m c 2) (after0_2 m c) t
  have b3 : ∀ d, (dats m 0 c).before 3 t d = (insOf m c t).x4 := before0_3_of m (dats m 0 c) (A_eq m c 3) (after0_3 m c) t
  have b4 : ∀ d, (dats m 0 c).before 4 t d = (insOf m c t).x5 := before0_4_of m (dats m 0 c) (A_eq m c 4) (after0_4 m c) t
  have b5 : ∀ d, (dats m 0 c).before 5 t d = (insOf m c t).x6 := before0_5_of m (dats m 0 c) (A_eq m c 5) (after0_5 m c) t
  have b6 : ∀ d, (dats m 0 c).before 6 t d = (insOf m c t).x7 := before0_6_of m (dats m 0 c) (A_eq m c 6) (after0_6 m c) t
  have b7 : ∀ d, (dats m 0 c).before 7 t d = (insOf m c t).x8 := before0_7_of m (dats m 0 c) (A_eq m c 7) (after0_7 m c) t
  have b8 : ∀ d, (dats m 0 c).before 8 t d = (insOf m c t).x9 := before0_8_of m (dats m 0 c) (A_eq m c 8) (after0_8 m c) t
  have b9 : ∀ d, (dats m 0 c).before 9 t d = (insOf m c t).x10 := before0_9_of m (dats m 0 c) (A_eq m c 9) (after0_9 m c) t
  have b10 : ∀ d, (dats m 0 c).before 10 t d = (insOf m c t).x11 := before0_10_of m (dats m 0 c) (A_eq m c 10) (after0_10 m c) t
  have b11 : ∀ d, (dats m 0 c).before 11 t d = (insOf m c t).x12 := before0_11_of m (dats m 0 c) (A_eq m c 11) (after0_11 m c) t
  have b12 : ∀ d, (dats m 0 c).before 12 t d = (insOf m c t).x13 := before0_12_of m (dats m 0 c) (A_eq m c 12) (after0_12 m c) t
  have b13 : ∀ d, (dats m 0 c).before 13 t d = (insOf m c t).x14 := before0_13_of m (dats m 0 c) (A_eq m c 13) (after0_13 m c) t
  have b14 : ∀ d, (dats m 0 c).before 14 t d = (insOf m c t).x15 := before0_14_of m (dats m 0 c) (A_eq m c 14) (after0_14 m c) t
  have b15 : ∀ d, (dats m 0 c).before 15 t d = (insOf m c t).x16 := before0_15_of m (dats m 0 c) (A_eq m c 15) (after0_15 m c) t
  have b16 : ∀ d, (dats m 0 c).before 16 t d = (insOf m c t).x17 := before0_16_of m (dats m 0 c) (A_eq m c 16) (after0_16 m c) t
  have b17 : ∀ d, (dats m 0 c).before 17 t d = (insOf m c t).x18 := before0_17_of m (dats m 0 c) (A_eq m c 17) (after0_17 m c) t
  have b18 : ∀ d, (dats m 0 c).before 18 t d = (insOf m c t).x19 := before0_18_of m (dats m 0 c) (A_eq m c 18) (after0_18 m c) t
  have b19 : ∀ d, (dats m 0 c).before 19 t d = (insOf m c t).x20 := before0_19_of m (dats m 0 c) (A_eq m c 19) (after0_19 m c) t
  have b20 : ∀ d, (dats m 0 c).before 20 t d = (insOf m c t).x21 := before0_20_of m (dats m 0 c) (A_eq m c 20) (after0_20 m c) t
  have b21 : ∀ d, (dats m 0 c).before 21 t d = (insOf m c t).x22 := before0_21_of m (dats m 0 c) (A_eq m c 21) (after0_21 m c) t
  rw [hq, hpost, hh]
  unfold bodyRest
  rw [hh, show (dats m 0 c).owesAt () t.succ = (dats m 0 c).owesAt () t.castSucc from rfl]
  simp only [b0, b1, b2, b3, b4, b5, b6, b7, b8, b9, b10, b11, b12, b13, b14, b15, b16, b17, b18, b19, b20, b21, owns_at c (stageOf t).w1, owns_at c (stageOf t).w2, owns_at c (stageOf t).w3, owns_at c (stageOf t).w4, owns_at c (stageOf t).w5, owns_at c (stageOf t).w6, owns_at c (stageOf t).w7, owns_at c (stageOf t).w8, owns_at c (stageOf t).w9, owns_at c (stageOf t).w10, owns_at c (stageOf t).w11, owns_at c (stageOf t).w12, owns_at c (stageOf t).w13, owns_at c (stageOf t).w14, owns_at c (stageOf t).w15, owns_at c (stageOf t).w16, owns_at c (stageOf t).w17, owns_at c (stageOf t).w18, owns_at c (stageOf t).w19, owns_at c (stageOf t).w20, owns_at c (stageOf t).w21, owns_at c (stageOf t).w22]
  iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩⟩
  simp only [owns_at c (stageOf t).w23]
  iapply (hrun _ _)
  isplitl [H0 H1 H2 H3 H4 H5 H6 H7 H8 H9 H10 H11 H12 H13 H14 H15 H16 H17 H18 H19 H20 H21]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    iexact H21
  isplitl [H22]; · iexact H22
  isplitl [HS]; · iexact HS
  iintro ⟨⟨H0, H1, H2, H3, H4, H5, H6, H7, H8, H9, H10, H11, H12, H13, H14, H15, H16, H17, H18, H19, H20, H21⟩, H22, HS⟩
  isplitl [HS Hg]
  · isplitl [HS]; · iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  have ho := hout d22
  rw [owns_at c (stageOf t).w23] at ho
  iapply ho
  iexact H22

end Cert.KernelIdeal.Gen
-- ==== Proof.KernelIdeal.Launched.lean ====
module

public import proofs.«01_k».proof.Proof.KernelIdeal.Region
public import Idealize.ShloMosaic.Lib.Claim

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The output of a point that leaves it alone. -/
theorem out_left (c : Dev nD) (t : Fin cfg0.N) (h : t.val ≠ 31) (d) :
    (owns (c : Thread nD τ) (stageOf t).a23 fullShare ((dats m 0 c).before 22 t d) : sProp 𝕄) ⊢ (dats m 0 c).leavesExact 22 t := by
  rw [Dat.leavesExact_idle (dats m 0 c) 22 t (out_idle t h) (out_kept t h)]
  iintro H
  iexists _
  iexact H

/-- The body keeps the invariant at every point. -/
theorem sound_body (c : Dev nD) (t : Fin cfg0.N) :
    iprop((dats m 0 c).Φ t.castSucc ∗ bodyRest m c t) ⊢ wp frame (wpE (defs₀ (F := F)) Variants.none c none) Set.univ (bodyAt0 t) (fun _ => bodyPost m c t) := by
  have hN : t.val < 32 := Nat.lt_of_lt_of_eq t.isLt N_0
  obtain ⟨n, hn⟩ := t
  have hN' : n < 32 := hN
  cases n with
  | zero =>
    rw [show (dats m 0 c).Φ (Fin.castSucc ⟨0, hn⟩) = Pipeline.ΦA spec0 c from inv_castSucc m c ⟨0, hn⟩, free_eq]
    iintro ⟨⟨⟨⟨%d0, H0⟩, ⟨%d1, H1⟩, ⟨%d2, H2⟩, ⟨%d3, H3⟩, ⟨%d4, H4⟩⟩, Hg⟩, Hr⟩
    iapply (point_of_run m c ⟨0, hn⟩ ⟨d0, d1, d2, d3, d4⟩ (scrAfter m c 0 hn) (fun o => o)
      (fun o K => run_first c _ _ _ _ o ((isFirst_iff _).mpr rfl) (fun h' => (isLater_iff _).mp h' rfl)
        (fun h' => absurd ((isLast_iff _).mp h') (by decide : (0 : ℕ) ≠ 31)) _ K) rfl (out_left m c _ (by decide : (0 : ℕ) ≠ 31)))
    isplitl [H0 H1 H2 H3 H4 Hg]
    · unfold heldAt
      isplitl [H0 H1 H2 H3 H4]
      · isplitl [H0]; · iexact H0
        isplitl [H1]; · iexact H1
        isplitl [H2]; · iexact H2
        isplitl [H3]; · iexact H3
        iexact H4
      iexact Hg
    iexact Hr
  | succ n =>
    have h0 : ¬isFirst (grid0.coords ⟨n + 1, hn⟩) := fun h => absurd ((isFirst_iff _).mp h) (Nat.succ_ne_zero n)
    have h2 : isLater (grid0.coords ⟨n + 1, hn⟩) := (isLater_iff _).mpr (Nat.succ_ne_zero n)
    rw [show (dats m 0 c).Φ (Fin.castSucc ⟨n + 1, hn⟩) = heldAt c (scrAfter m c n (Nat.lt_of_succ_lt hn)) from inv_castSucc m c ⟨n + 1, hn⟩]
    by_cases h : n + 1 = 31
    · refine point_of_run m c ⟨n + 1, hn⟩ (scrAfter m c n (Nat.lt_of_succ_lt hn)) (scrAfter m c (n + 1) hn)
        (fun _ => outOf (insOf m c ⟨n + 1, hn⟩) (scrAfter m c (n + 1) hn))
        (fun o K => run_last c _ _ _ _ o h0 h2 ((isLast_iff _).mpr h) _ K) rfl fun o => ?_
      rw [leaves_of m c _ 22 (out_live _ h) (after0_22 m c _)]
      exact .rfl
    · exact point_of_run m c ⟨n + 1, hn⟩ (scrAfter m c n (Nat.lt_of_succ_lt hn)) (scrAfter m c (n + 1) hn) (fun o => o)
        (fun o K => run_middle c _ _ _ _ o h0 h2 (fun h' => h ((isLast_iff _).mp h')) _ K) rfl (out_left m c _ h)

/-- The body's row of the table is the body at the point's buffers. -/
theorem defs₀_row (t : Fin cfg0.N) : defs₀ (F := F) .tc cfg0.body (cfg0.bodyArgs t (cfg0.slots t)) = bodyAt0 t := by
  unfold defs₀
  rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- The invariant begins as the launch hands the scratch over, -/
theorem inv_begin (c : Dev nD) : Pipeline.ΦA spec0 c ⊢ (dats m 0 c).Φ 0 := by
  rw [show (dats m 0 c).Φ 0 = Pipeline.ΦA spec0 c from rfl]

/-- and gives it back at the end. -/
theorem held_free (c : Dev nD) (s : Scr F) : heldAt c s ⊢ (Pipeline.ΦA spec0 c : sProp 𝕄) := by
  rw [free_eq]
  unfold heldAt
  iintro ⟨⟨H0, H1, H2, H3, H4⟩, Hg⟩
  isplitl [H0 H1 H2 H3 H4]
  · isplitl [H0]; · iexists _; iexact H0
    isplitl [H1]; · iexists _; iexact H1
    isplitl [H2]; · iexists _; iexact H2
    isplitl [H3]; · iexists _; iexact H3
    iexists _; iexact H4
  iexact Hg

theorem inv_end (c : Dev nD) : (dats m 0 c).Φ (Fin.last cfg0.N) ⊢ Pipeline.ΦA spec0 c := by
  have hN : cfg0.N = 31 + 1 := N_0
  have : ∀ (n : ℕ) (h : n ≤ cfg0.N), n = 31 + 1 → inv m c n h ⊢ (Pipeline.ΦA spec0 c : sProp 𝕄) := fun n h e => by
    subst e
    exact held_free c _
  exact this (Fin.last cfg0.N).val (Nat.le_of_lt_succ (Fin.last cfg0.N).isLt) hN

set_option backward.isDefEq.respectTransparency.types false in
/-- The launch: every run ends with the arrays as the proof data say and every counter at zero. -/
theorem run_launch : θ_run defs (onTc (τ := τ) (main (F := F))) (s₀ m ρ)
    (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := inv_begin m) (hout := inv_end m)

/-- The frame: every run ends with the arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19))
      ∧ r.2.sem = fun _ => 0) :=
  θ_run_and (frame_of m ρ (dats m) (A_eq m) ((θ_run defs _ _).mono (fun _ h => h.1) (run_launch m ρ)))
    ((θ_run defs _ _).mono (fun _ h => h.2) (run_launch m ρ))

end Cert.KernelIdeal.Gen
-- ==== Proof.Order.lean ====
/-
  A stable sort by a pair of keys: where an entry lands, and a sum taken in the sorted order.
-/
module

public import Idealize.ShloMosaic.Lib.SortFacts
public import Mathlib.Data.EReal.Basic
public import Mathlib.Algebra.BigOperators.Group.Finset.Basic
public import Mathlib.Algebra.BigOperators.Fin
public import Mathlib.Data.Fintype.Card
public import Mathlib.Order.Interval.Finset.Fin

@[expose] public section

namespace Cert.Order

open Idealize.ShloMosaic

section stable
variable {n : ℕ} (B : Fin n → Fin n → Bool)

/-- The order in which a stable sort by `B` puts the positions: by `B`, positions that `B` leaves tied by their place. -/
def Precedes (a b : Fin n) : Prop := B b a = false ∧ (B a b = true ∨ a < b)

theorem pairwise_insert (hneg : ∀ a b c, B a b = false → B b c = false → B a c = false)
    (hasym : ∀ a b, B a b = true → B b a = false) (a : Fin n) (l : List (Fin n)) (hl : l.Pairwise (Precedes B))
    (ha : ∀ b ∈ l, a < b) : (insertBefore B a l).Pairwise (Precedes B) := by
  induction l with
  | nil => exact List.pairwise_singleton _ _
  | cons b l ih =>
    rw [List.pairwise_cons] at hl
    unfold insertBefore
    split
    · rename_i h
      refine List.pairwise_cons.mpr ⟨fun c hc => ?_, ih hl.2 fun c hc => ha c (List.mem_cons_of_mem _ hc)⟩
      rcases List.mem_cons.mp ((perm_insertBefore B a l).mem_iff.mp hc) with rfl | hc'
      · exact ⟨hasym _ _ h, .inl h⟩
      · exact hl.1 c hc'
    · rename_i h
      have hba : B b a = false := by simpa using h
      refine List.pairwise_cons.mpr ⟨fun c hc => ?_, List.pairwise_cons.mpr hl⟩
      refine ⟨?_, .inr (ha c hc)⟩
      rcases List.mem_cons.mp hc with rfl | hc'
      · exact hba
      · exact hneg c b a (hl.1 c hc').1 hba

theorem pairwise_stable (hneg : ∀ a b c, B a b = false → B b c = false → B a c = false)
    (hasym : ∀ a b, B a b = true → B b a = false) (l : List (Fin n)) (hl : l.Pairwise (· < ·)) :
    (stableSort B l).Pairwise (Precedes B) := by
  induction l with
  | nil => exact List.Pairwise.nil
  | cons a l ih =>
    rw [List.pairwise_cons] at hl
    unfold stableSort
    exact pairwise_insert B hneg hasym a _ (ih hl.2) fun b hb => hl.1 b ((perm_stableSort B l).mem_iff.mp hb)

theorem precedes_sorted (hneg : ∀ a b c, B a b = false → B b c = false → B a c = false)
    (hasym : ∀ a b, B a b = true → B b a = false) (p q : Fin n) (h : p < q) :
    Precedes B (sortedFrom B p) (sortedFrom B q) := by
  have hp := List.pairwise_iff_get.mp (pairwise_stable B hneg hasym (List.finRange n)
    (List.pairwise_lt_finRange n))
  unfold sortedFrom
  exact hp _ _ h

theorem precedes_asymm (a b : Fin n) (h : Precedes B a b) : ¬ Precedes B b a := by
  rintro ⟨h1, h2⟩
  obtain ⟨h3, h4⟩ := h
  rcases h4 with h4 | h4
  · rw [h4] at h1; exact absurd h1 (by decide)
  · rcases h2 with h2 | h2
    · rw [h2] at h3; exact absurd h3 (by decide)
    · omega

open Classical in
/-- An entry's place in the sorted order is the number of the entries that precede it. -/
theorem position (hneg : ∀ a b c, B a b = false → B b c = false → B a c = false)
    (hasym : ∀ a b, B a b = true → B b a = false) (p : Fin n) :
    p.val = (Finset.univ.filter fun j => Precedes B j (sortedFrom B p)).card := by
  have hbij : Function.Bijective (sortedFrom B) := ⟨sortedFrom_injective B, sortedFrom_surjective B⟩
  have h1 : (Finset.univ.filter fun j => Precedes B j (sortedFrom B p)).card
      = (Finset.univ.filter fun q => q < p).card := by
    symm
    refine Finset.card_bij (fun q _ => sortedFrom B q) ?_ (fun _ _ _ _ h => hbij.1 h) ?_
    · intro q hq
      simp only [Finset.mem_filter, Finset.mem_univ, true_and] at hq ⊢
      exact precedes_sorted B hneg hasym q p hq
    · intro j hj
      simp only [Finset.mem_filter, Finset.mem_univ, true_and] at hj
      obtain ⟨q, rfl⟩ := hbij.2 j
      refine ⟨q, ?_, rfl⟩
      simp only [Finset.mem_filter, Finset.mem_univ, true_and]
      rcases lt_trichotomy q p with h | h | h
      · exact h
      · subst h; exact absurd hj (precedes_asymm B _ _ hj)
      · exact absurd (precedes_sorted B hneg hasym p q h) (precedes_asymm B _ _ hj)
  rw [h1, Finset.filter_gt_eq_Iio, Fin.card_Iio]

end stable

section keyed
variable {n : ℕ} (b : Fin n → ℕ) (v : Fin n → EReal)

/-- The entries of a smaller first key than `s`. -/
def below (s : ℕ) : ℕ := (Finset.univ.filter fun j => b j < s).card

open Classical in
/-- The entries of the same first key that a stable sort puts before entry `i`. -/
noncomputable def rank (i : Fin n) : ℕ :=
  (Finset.univ.filter fun j => b j = b i ∧ (v j < v i ∨ (v j = v i ∧ j < i))).card

open Classical in
/-- The comparison of two entries by their first key, then by their second. -/
noncomputable def lex (i j : Fin n) : Bool := decide (b i < b j ∨ (b i = b j ∧ v i < v j))

theorem lex_neg (i j k : Fin n) (h : lex b v i j = false) (h' : lex b v j k = false) : lex b v i k = false := by
  simp only [lex, decide_eq_false_iff_not, not_or, not_and, not_lt] at h h' ⊢
  obtain ⟨h1, h2⟩ := h
  obtain ⟨h3, h4⟩ := h'
  refine ⟨by omega, fun e => ?_⟩
  exact (h4 (by omega)).trans (h2 (by omega))

theorem lex_asymm (i j : Fin n) (h : lex b v i j = true) : lex b v j i = false := by
  simp only [lex, decide_eq_false_iff_not, not_or, not_and, not_lt, decide_eq_true_eq] at h ⊢
  rcases h with h | ⟨h, h'⟩
  · exact ⟨by omega, fun e => by omega⟩
  · exact ⟨by omega, fun _ => h'.le⟩

theorem precedes_lex (j i : Fin n) :
    Precedes (lex b v) j i ↔ b j < b i ∨ (b j = b i ∧ (v j < v i ∨ (v j = v i ∧ j < i))) := by
  simp only [Precedes, lex, decide_eq_false_iff_not, not_or, not_and, not_lt, decide_eq_true_eq]
  constructor
  · rintro ⟨⟨h1, h2⟩, h3⟩
    rcases h1.lt_or_eq with h | h
    · exact .inl h
    · refine .inr ⟨h, ?_⟩
      rcases (h2 h.symm).lt_or_eq with h' | h'
      · exact .inl h'
      · refine .inr ⟨h', ?_⟩
        rcases h3 with (h3 | h3) | h3
        · omega
        · rw [h'] at h3; exact absurd h3.2 (lt_irrefl _)
        · exact h3
  · rintro (h | ⟨h, h' | ⟨h', h''⟩⟩)
    · exact ⟨⟨h.le, fun e => by omega⟩, .inl (.inl h)⟩
    · exact ⟨⟨h.le, fun _ => h'.le⟩, .inl (.inr ⟨h, h'⟩)⟩
    · exact ⟨⟨h.le, fun _ => h'.le⟩, .inr h''⟩

/-- An entry's place: the entries of a smaller first key, then those of its own key that come before it. -/
theorem position_lex (p : Fin n) :
    p.val = below b (b (sortedFrom (lex b v) p)) + rank b v (sortedFrom (lex b v) p) := by
  classical
  refine (position (lex b v) (lex_neg b v) (lex_asymm b v) p).trans ?_
  simp only [precedes_lex, below, rank]
  rw [Finset.filter_or, Finset.card_union_of_disjoint]
  exact Finset.disjoint_filter.mpr fun j _ h h' => by omega

theorem rank_lt (i : Fin n) : rank b v i < (Finset.univ.filter fun j => b j = b i).card := by
  classical
  refine Finset.card_lt_card (Finset.ssubset_iff_subset_ne.mpr ⟨?_, fun e => ?_⟩)
  · intro j hj
    simp only [Finset.mem_filter, Finset.mem_univ, true_and] at hj ⊢
    exact hj.1
  · have : i ∈ Finset.univ.filter fun j => b j = b i := by simp
    rw [← e] at this
    simp at this

theorem below_succ (s : ℕ) : below b (s + 1) = below b s + (Finset.univ.filter fun j => b j = s).card := by
  unfold below
  rw [← Finset.card_union_of_disjoint (Finset.disjoint_filter.mpr fun j _ h h' => by omega), ← Finset.filter_or]
  congr 1
  ext j
  simp only [Finset.mem_filter, Finset.mem_univ, true_and]
  omega

/-- In an ascending list the entries of a smaller key are the first ones. -/
theorem lt_below_iff (hb : Monotone b) (s : ℕ) (j : Fin n) : j.val < below b s ↔ b j < s := by
  classical
  unfold below
  constructor
  · intro h
    by_contra hj
    have : (Finset.univ.filter fun k => b k < s) ⊆ Finset.univ.filter fun k => k < j := by
      intro k hk
      simp only [Finset.mem_filter, Finset.mem_univ, true_and] at hk ⊢
      by_contra hkj
      have := hb (not_lt.mp hkj)
      omega
    have := Finset.card_le_card this
    rw [Finset.filter_gt_eq_Iio, Fin.card_Iio] at this
    omega
  · intro h
    have : (Finset.univ.filter fun k => k ≤ j) ⊆ Finset.univ.filter fun k => b k < s := by
      intro k hk
      simp only [Finset.mem_filter, Finset.mem_univ, true_and] at hk ⊢
      have := hb hk
      omega
    have := Finset.card_le_card this
    rw [Finset.filter_ge_eq_Iic, Fin.card_Iic] at this
    omega

/-- Sorting an ascending first key leaves it as it is. -/
theorem key_sorted (hb : Monotone b) (p : Fin n) : b (sortedFrom (lex b v) p) = b p := by
  have h := position_lex b v p
  have h1 := rank_lt b v (sortedFrom (lex b v) p)
  have h2 := below_succ b (b (sortedFrom (lex b v) p))
  have h3 := (lt_below_iff b hb (b (sortedFrom (lex b v) p)) p).not
  have h4 := lt_below_iff b hb (b (sortedFrom (lex b v) p) + 1) p
  have h5 : ¬ p.val < below b (b (sortedFrom (lex b v) p)) := by omega
  have h6 := h3.mp h5
  have h7 := h4.mp (by omega)
  omega

/-- A sum over the sorted order, each entry taken with its place among the entries of its key, is the sum over the
    entries as they stand, each with its rank. -/
theorem sum_sorted {M : Type*} [AddCommMonoid M] (hb : Monotone b) (s : ℕ) (f : Fin n → ℕ → M) :
    (∑ p, if b p = s then f (sortedFrom (lex b v) p) (p.val - below b (b p)) else 0)
      = ∑ i, if b i = s then f i (rank b v i) else 0 := by
  refine Fintype.sum_bijective (sortedFrom (lex b v)) ⟨sortedFrom_injective _, sortedFrom_surjective _⟩ _ _ fun p => ?_
  rw [key_sorted b v hb p]
  have h := position_lex b v p
  rw [key_sorted b v hb p] at h
  rw [show p.val - below b (b p) = rank b v (sortedFrom (lex b v) p) by omega]

theorem below_le_of_mem (hb : Monotone b) (p : Fin n) : below b (b p) ≤ p.val := by
  have := (lt_below_iff b hb (b p) p).not.mpr (lt_irrefl _)
  omega

end keyed

end Cert.Order
-- ==== Proof.Spec.lean ====
/-
  The network as plain sums over the extended reals: each token's row, the table of position rows, the pooling over a
  segment and the head.
-/
module

public import proofs.«01_k».proof.Proof.Order
public import Idealize.ShloMosaic.PureOps
public import Idealize.ShloMosaic.PureOps.Ideal
public import Idealize.ShloMosaic.Lib.Pointwise

@[expose] public section

namespace Cert.Spec

open Idealize.ShloMosaic

noncomputable section

/-- A row of 512 features. -/
abbrev Row := Fin 512 → EReal

/-- A row through a matrix, plus a bias. -/
def dense {k n : ℕ} (v : Fin k → EReal) (W : Fin k → Fin n → EReal) (b : Fin n → EReal) (j : Fin n) : EReal :=
  (∑ i, v i * W i j) + b j

/-- The mean of a row. -/
def mean (h : Row) : EReal := Ideal.div (∑ i, h i) (Ideal.ofBits .f32 0x44000000#32)

/-- The mean squared distance of a row from its mean. -/
def spread (h : Row) : EReal :=
  Ideal.div (∑ i, (h i - mean h) * (h i - mean h)) (Ideal.ofBits .f32 0x44000000#32)

/-- A row normalised, scaled and shifted, through the hyperbolic tangent. -/
def normed (h g be : Row) : Row := fun j =>
  Ideal.tanh (Ideal.div (h j - mean h) (Ideal.sqrt (spread h + Ideal.ofBits .f32 0x3727C5AC#32)) * g j + be j)

/-- The network's parameters. -/
structure Weights where
  /-- the score of a token -/
  rankW : Row
  rankB : EReal
  /-- the token network -/
  psiW1 : Fin 512 → Row
  psiB1 : Row
  psiG : Row
  psiBe : Row
  psiW2 : Fin 512 → Row
  psiB2 : Row
  /-- the position network -/
  posW1 : Fin 513 → Row
  posB1 : Row
  posG : Row
  posBe : Row
  posW2 : Fin 512 → Row
  posB2 : Row
  /-- the head -/
  phiW1 : Fin 1025 → Fin 768 → EReal
  phiB1 : Fin 768 → EReal
  phiW2 : Fin 768 → Row
  phiB2 : Row

/-- The parameters as the arrays hold them. -/
def ofArrays (a2 : FVec Ideal ⟨2, ![512, 1]⟩ .f32) (a3 : FVec Ideal ⟨1, ![1]⟩ .f32) (a4 : FVec Ideal ⟨2, ![512, 512]⟩ .f32)
    (a5 a6 a7 : FVec Ideal ⟨1, ![512]⟩ .f32) (a8 : FVec Ideal ⟨2, ![512, 512]⟩ .f32) (a9 : FVec Ideal ⟨1, ![512]⟩ .f32)
    (a10 : FVec Ideal ⟨2, ![513, 512]⟩ .f32) (a11 a12 a13 : FVec Ideal ⟨1, ![512]⟩ .f32) (a14 : FVec Ideal ⟨2, ![512, 512]⟩ .f32)
    (a15 : FVec Ideal ⟨1, ![512]⟩ .f32) (a16 : FVec Ideal ⟨2, ![1025, 768]⟩ .f32) (a17 : FVec Ideal ⟨1, ![768]⟩ .f32)
    (a18 : FVec Ideal ⟨2, ![768, 512]⟩ .f32) (a19 : FVec Ideal ⟨1, ![512]⟩ .f32) : Weights where
  rankW := fun k => a2 (ix2 k 0)
  rankB := a3 (ix1 0)
  psiW1 := fun k j => a4 (ix2 k j)
  psiB1 := fun j => a5 (ix1 j)
  psiG := fun j => a6 (ix1 j)
  psiBe := fun j => a7 (ix1 j)
  psiW2 := fun k j => a8 (ix2 k j)
  psiB2 := fun j => a9 (ix1 j)
  posW1 := fun k j => a10 (ix2 k j)
  posB1 := fun j => a11 (ix1 j)
  posG := fun j => a12 (ix1 j)
  posBe := fun j => a13 (ix1 j)
  posW2 := fun k j => a14 (ix2 k j)
  posB2 := fun j => a15 (ix1 j)
  phiW1 := fun k j => a16 (ix2 k j)
  phiB1 := fun j => a17 (ix1 j)
  phiW2 := fun k j => a18 (ix2 k j)
  phiB2 := fun j => a19 (ix1 j)

/-- The tokens' rows as the array holds them. -/
def tokens (a0 : FVec Ideal ⟨2, ![16384, 512]⟩ .f32) (i : Fin 16384) : Row := fun j => a0 (ix2 i j)

/-- The tokens' segments as the array holds them. -/
def segments (a1 : IVec ⟨1, ![16384]⟩ 32) (i : Fin 16384) : ℕ := (a1 (ix1 i)).toNat

/-- What the claim assumes of the segments: ascending, each one of 64. -/
structure Sorted (a1 : IVec ⟨1, ![16384]⟩ 32) : Prop where
  mono : Monotone (segments a1)
  lt : ∀ i, segments a1 i < 64

variable (w : Weights)

/-- A token's score. -/
def score (x : Fin 16384 → Row) (i : Fin 16384) : EReal := (∑ k, x i k * w.rankW k) + w.rankB

/-- A token's row through the token network. -/
def psi (x : Row) : Row := dense (normed (dense x w.psiW1 w.psiB1) w.psiG w.psiBe) w.psiW2 w.psiB2

/-- The row a position picks from the first position matrix: none past its last. -/
def posPick (r : ℕ) : Row := fun j => if h : r < 513 then w.posW1 ⟨r, h⟩ j else 0

/-- A position through the position network. -/
def pos (r : ℕ) : Row := dense (normed (fun j => posPick w r j + w.posB1 j) w.posG w.posBe) w.posW2 w.posB2

/-- One segment's pooled row: each of its tokens times its position, the tokens ranked by their score. -/
def pooled (x : Fin 16384 → Row) (b : Fin 16384 → ℕ) (s : ℕ) : Row := fun j =>
  ∑ i, if b i = s then psi w (x i) j * pos w (Order.rank b (score w x) i) j else 0

/-- The tokens of a segment. -/
def size (b : Fin 16384 → ℕ) (s : ℕ) : ℕ := (Finset.univ.filter fun i => b i = s).card

/-- A pooled row and a segment's size through the head. -/
def head (y : Row) (n : ℕ) : Row :=
  dense (fun k : Fin 768 => Ideal.tanh ((∑ i : Fin 512, y i * w.phiW1 (i.castLE (by omega)) k)
    + (∑ i : Fin 513, (if n = i.val then 1 else 0) * w.phiW1 (i.natAdd 512) k) + w.phiB1 k)) w.phiW2 w.phiB2

/-- The network's result for one segment. -/
def result (x : Fin 16384 → Row) (b : Fin 16384 → ℕ) (s : ℕ) : Row := head w (pooled w x b s) (size b s)

/-- A position past the table's last row is as good as any other. -/
theorem pos_min (r : ℕ) : pos w (min r 513) = pos w r := by
  have : posPick w (min r 513) = posPick w r := by
    funext j
    unfold posPick
    by_cases h : r < 513
    · rw [show min r 513 = r by omega]
    · rw [dif_neg h, dif_neg (by omega)]
  unfold pos
  rw [this]

/-- A test of two words as a number: one where they are equal. -/
theorem unsigned_test (a b : BitVec 32) :
    (FloatOps.uitofp (F := Ideal) .f32 (IntOp.cmpi .eq a b) : EReal) = if a = b then 1 else 0 := by
  show (((IntOp.cmpi .eq a b).toNat : ℝ) : EReal) = _
  by_cases h : a = b
  · rw [if_pos h, h, show IntOp.cmpi .eq b b = 1#1 by simp [IntOp.cmpi]]; simp
  · rw [if_neg h, show IntOp.cmpi .eq a b = 0#1 by simp [IntOp.cmpi, beq_eq_false_iff_ne.mpr h]]; simp

/-- The same test widened to a word first. -/
theorem signed_test (a b : BitVec 32) :
    (FloatOps.sitofp (F := Ideal) .f32 (BitVec.setWidth 32 (IntOp.cmpi .eq a b)) : EReal) = if a = b then 1 else 0 := by
  show (((BitVec.setWidth 32 (IntOp.cmpi .eq a b)).toInt : ℝ) : EReal) = _
  by_cases h : a = b
  · rw [if_pos h, h, show IntOp.cmpi .eq b b = 1#1 by simp [IntOp.cmpi], show (BitVec.setWidth 32 (1#1)).toInt = 1 by decide]; simp
  · rw [if_neg h, show IntOp.cmpi .eq a b = 0#1 by simp [IntOp.cmpi, beq_eq_false_iff_ne.mpr h], show (BitVec.setWidth 32 (0#1)).toInt = 0 by decide]; simp

/-- Small words are equal where their numbers are. -/
theorem word_eq_iff {a b : ℕ} (ha : a < 2 ^ 32) (hb : b < 2 ^ 32) : BitVec.ofNat 32 a = BitVec.ofNat 32 b ↔ a = b := by
  constructor
  · intro h
    have := congrArg BitVec.toNat h
    rwa [BitVec.toNat_ofNat, BitVec.toNat_ofNat, Nat.mod_eq_of_lt ha, Nat.mod_eq_of_lt hb] at this
  · rintro rfl; rfl

/-- The word 512 as a number is positive. -/
theorem length_pos : (0 : EReal) < Ideal.ofBits .f32 0x44000000#32 := by
  have : Ideal.ofBits .f32 0x44000000#32 = ((512 : ℝ) : EReal) := by
    simp [Ideal.ofBits, Ideal.ieee, -EReal.coe_mul]; norm_num
  rw [this]
  exact EReal.coe_pos.mpr (by norm_num)

/-- A sum of a row picked by a test. -/
theorem sum_pick {n : ℕ} (r : ℕ) (f : Fin n → EReal) :
    (∑ i : Fin n, (if r = i.val then 1 else 0) * f i) = if h : r < n then f ⟨r, h⟩ else 0 := by
  by_cases h : r < n
  · rw [dif_pos h, Finset.sum_eq_single (⟨r, h⟩ : Fin n)]
    · rw [if_pos rfl, one_mul]
    · intro i _ hi
      rw [if_neg fun e => hi (Fin.ext e.symm), zero_mul]
    · intro hi; exact absurd (Finset.mem_univ _) hi
  · rw [dif_neg h]
    refine Finset.sum_eq_zero fun i _ => ?_
    rw [if_neg (by omega), zero_mul]

end

end Cert.Spec
-- ==== Proof.Counts.lean ====
/-
  Counting with words: a count kept as words, taken chunk by chunk.
-/
module

public import proofs.«01_k».proof.Proof.Spec
public import Idealize.ShloMosaic.Lib.SortNet.Extract
public import Idealize.ShloMosaic.Lib.WordCmp
public import Idealize.ShloMosaic.Lib.PlanTiles.Rows

@[expose] public section

namespace Cert.Counts

open Idealize.ShloMosaic

/-- A sum over chunks of `k` is the sum over all. -/
theorem sum_chunks {M : Type*} [AddCommMonoid M] (f : ℕ → M) (k n : ℕ) :
    ∑ q ∈ Finset.range n, ∑ c ∈ Finset.range k, f (q * k + c) = ∑ i ∈ Finset.range (n * k), f i := by
  induction n with
  | zero => simp
  | succ n ih => rw [Finset.sum_range_succ, ih, Nat.succ_mul, Finset.sum_range_add]

/-- The same over the tokens of an array. -/
theorem sum_tokens {M : Type*} [AddCommMonoid M] (f : ℕ → M) {k n N : ℕ} (h : N = n * k) :
    ∑ i : Fin N, f i.val = ∑ q ∈ Finset.range n, ∑ c : Fin k, f (q * k + c.val) := by
  rw [← Finset.sum_range f, h, ← sum_chunks]
  exact Finset.sum_congr rfl fun q _ => Finset.sum_range fun c => f (q * k + c)

/-- Leaving out leading zeros. -/
theorem sum_from (h : ℕ → ℕ) (lo m : ℕ) (h0 : ∀ q, q < lo → h q = 0) :
    ∑ k ∈ Finset.range (m - lo), h (lo + k) = ∑ q ∈ Finset.range m, h q := by
  by_cases hlo : lo ≤ m
  · conv_rhs => rw [← Nat.add_sub_cancel' hlo, Finset.sum_range_add]
    rw [Finset.sum_eq_zero (s := Finset.range lo) fun q hq => h0 q (Finset.mem_range.mp hq), zero_add]
  · rw [show m - lo = 0 by omega, Finset.sum_range_zero, Finset.sum_eq_zero fun q hq => h0 q (by have := Finset.mem_range.mp hq; omega)]

/-- Leaving out trailing zeros. -/
theorem sum_upto (h : ℕ → ℕ) (n hi m : ℕ) (hm : hi ≤ m) (hn : n ≤ m) (h0 : ∀ q, hi ≤ q → q < m → h q = 0) :
    ∑ q ∈ Finset.range n, h q + ∑ k ∈ Finset.range (hi - n), h (n + k) = ∑ q ∈ Finset.range m, h q := by
  rw [← Finset.sum_range_add]
  have hl : n + (hi - n) ≤ m := by omega
  conv_rhs => rw [← Nat.add_sub_cancel' hl, Finset.sum_range_add]
  rw [Finset.sum_eq_zero (s := Finset.range (m - (n + (hi - n)))) fun q hq => h0 _ (by omega) (by have := Finset.mem_range.mp hq; omega), add_zero]

/-- A fold of words by addition is the word of the sum. -/
theorem fold_words {ι : Type} (S : Finset ι) (f : ι → ℕ) :
    S.fold IntOp.addi 0#32 (fun k => BitVec.ofNat 32 (f k)) = BitVec.ofNat 32 (∑ k ∈ S, f k) := by
  classical
  induction S using Finset.induction_on with
  | empty => rfl
  | insert a S ha ih => rw [Finset.fold_insert ha, ih, Finset.sum_insert ha, BitVec.ofNat_add]; rfl

/-- A fold by the signed minimum is at most every word met. -/
theorem fold_min_le {ι : Type} (S : Finset ι) (g : ι → BitVec 32) (z : BitVec 32) (i : ι) (hi : i ∈ S) :
    (S.fold IntOp.minsi z g).toInt ≤ (g i).toInt := by
  classical
  induction S using Finset.induction_on with
  | empty => exact absurd hi (Finset.notMem_empty i)
  | insert a S ha ih =>
    rw [Finset.fold_insert ha, SortNet.toInt_minsi]
    rcases Finset.mem_insert.mp hi with rfl | hi
    · exact min_le_left _ _
    · exact (min_le_right _ _).trans (ih hi)

/-- A fold by the signed maximum is at least every word met. -/
theorem le_fold_max {ι : Type} (S : Finset ι) (g : ι → BitVec 32) (z : BitVec 32) (i : ι) (hi : i ∈ S) :
    (g i).toInt ≤ (S.fold IntOp.maxsi z g).toInt := by
  classical
  exact (SortNet.fold_maxsi_spec g S z).2.1 i hi

/-- The test of two words, as a word. -/
theorem word_test (a b : BitVec 32) : BitVec.setWidth 32 (IntOp.cmpi .eq a b) = BitVec.ofNat 32 (if a = b then 1 else 0) := by
  by_cases h : a = b
  · rw [if_pos h, h, show IntOp.cmpi .eq b b = 1#1 by simp [IntOp.cmpi]]; rfl
  · rw [if_neg h, show IntOp.cmpi .eq a b = 0#1 by simp [IntOp.cmpi, beq_eq_false_iff_ne.mpr h]]; rfl

/-- A test and the test of two words, as a word. -/
theorem both_test (p : Prop) [Decidable p] (a b : BitVec 32) :
    BitVec.setWidth 32 (IntOp.andi (BitVec.ofBool (decide p)) (IntOp.cmpi .eq a b)) = BitVec.ofNat 32 (if a = b ∧ p then 1 else 0) := by
  have e : IntOp.cmpi .eq a b = BitVec.ofBool (decide (a = b)) := by
    by_cases h : a = b
    · simp [IntOp.cmpi, h]
    · simp [IntOp.cmpi, h, beq_eq_false_iff_ne.mpr h]
  rw [e]
  by_cases h : a = b <;> by_cases h' : p <;> simp [h, h', IntOp.andi]

/-- A test of scores, ties broken by a test of words. -/
theorem tie_test (p q : Prop) [Decidable p] [Decidable q] (c o r : ℕ) (hc : c + o < 2 ^ 31) (hr : r < 2 ^ 31) :
    IntOp.ori (BitVec.ofBool (decide p)) (IntOp.andi (BitVec.ofBool (decide q))
      (IntOp.cmpi .slt (IntOp.addi (BitVec.ofNat 32 c) (BitVec.ofNat 32 o)) (BitVec.ofNat 32 r)))
      = BitVec.ofBool (decide (p ∨ (q ∧ c + o < r))) := by
  have e : IntOp.cmpi .slt (IntOp.addi (BitVec.ofNat 32 c) (BitVec.ofNat 32 o)) (BitVec.ofNat 32 r) = BitVec.ofBool (decide (c + o < r)) := by
    rw [show IntOp.addi (BitVec.ofNat 32 c) (BitVec.ofNat 32 o) = BitVec.ofNat 32 (c + o) from (BitVec.ofNat_add _ _).symm]
    refine congrArg BitVec.ofBool ?_
    show decide ((BitVec.ofNat 32 (c + o)).toInt < (BitVec.ofNat 32 r).toInt) = _
    rw [WordCmp.toInt_ofNat_of_lt hc, WordCmp.toInt_ofNat_of_lt hr]
    simp only [Nat.cast_lt]
  rw [e]
  by_cases h : p <;> by_cases h' : q <;> by_cases h'' : c + o < r <;> simp [h, h', h'', IntOp.ori, IntOp.andi]

/-- A signed comparison of words holds where that of their integers does. -/
theorem slt_iff (a b : BitVec 32) : IntOp.cmpi .slt a b = 1#1 ↔ a.toInt < b.toInt := by
  show BitVec.ofBool (decide (a.toInt < b.toInt)) = 1#1 ↔ _
  by_cases h : a.toInt < b.toInt <;> simp [h]

theorem sle_iff (a b : BitVec 32) : IntOp.cmpi .sle a b = 1#1 ↔ a.toInt ≤ b.toInt := by
  show BitVec.ofBool (decide (a.toInt ≤ b.toInt)) = 1#1 ↔ _
  by_cases h : a.toInt ≤ b.toInt <;> simp [h]

/-- The token a number stands for. -/
def tok (n : ℕ) : Fin 16384 := ⟨n % 16384, Nat.mod_lt _ (by decide)⟩

theorem tok_val {n : ℕ} (h : n < 16384) : (tok n).val = n := Nat.mod_eq_of_lt h

theorem tok_fin (i : Fin 16384) : tok i.val = i := Fin.ext (tok_val i.isLt)

open Classical in
/-- Whether the token a number stands for comes before token `i` in `i`'s segment. -/
noncomputable def hit (b : Fin 16384 → ℕ) (mag : Fin 16384 → EReal) (i : Fin 16384) (n : ℕ) : ℕ :=
  if b (tok n) = b i ∧ (mag (tok n) < mag i ∨ (mag (tok n) = mag i ∧ n < i.val)) then 1 else 0

theorem hit_zero (b : Fin 16384 → ℕ) (mag : Fin 16384 → EReal) (i : Fin 16384) (n : ℕ) (h : b (tok n) ≠ b i) : hit b mag i n = 0 :=
  if_neg fun h' => h h'.1

/-- All the tokens that come before token `i` are its rank. -/
theorem sum_hit (b : Fin 16384 → ℕ) (mag : Fin 16384 → EReal) (i : Fin 16384) :
    ∑ n ∈ Finset.range 16384, hit b mag i n = Order.rank b mag i := by
  classical
  rw [Finset.sum_range]
  unfold Order.rank
  rw [Finset.card_filter]
  refine Finset.sum_congr rfl fun j _ => ?_
  unfold hit
  rw [tok_fin]
  exact if_congr (by simp only [Fin.lt_def]) rfl rfl

end Cert.Counts
-- ==== Proof.KernelIdeal.Ranks.lean ====
/-
  What one block counts: each of its tokens' rank within the token's segment.
-/
module

public import proofs.«01_k».proof.Proof.Counts
public import proofs.«01_k».proof.Proof.KernelIdeal.Point

@[expose] public section

set_option maxRecDepth 16384

namespace Cert.KernelIdeal.Gen

open Idealize.ShloMosaic Cert.Counts

/-- What a block finds of the tokens' scores and segments. -/
structure Finds (mag : Fin 16384 → EReal) (a1 : IVec S16384 32) (i : grid0.Coords) (v : Ins Ideal) : Prop where
  x1 : ∀ n, v.x1 (colIx n) = mag (tok n)
  x2 : ∀ n, v.x2 (colIx n) = a1 (ix1 (tok n))
  x3 : ∀ (p : Fin 8) (q : Fin 2048), v.x3 (ix2 p q) = a1 (ix1 (tok (p.val * 2048 + q.val)))
  x4 : ∀ r : Fin 512, v.x4 (ix2 r 0) = mag (tok ((i 0).val * 512 + r.val))
  x5 : ∀ r : Fin 512, v.x5 (ix2 r 0) = a1 (ix1 (tok ((i 0).val * 512 + r.val)))

/-- A fold over chunks, at an element. -/
theorem overChunks_apply {α β : Type} (f : IVec S512x256 32 → (S1x256.Idx → α) → (S1x256.Idx → β) → IVec S512x256 32)
    (x : S1x16384.Idx → α) (y : S1x16384.Idx → β) (lo : ℕ) (init : IVec S512x256 32) (j : S512x256.Idx) (h : ℕ → ℕ) (n : ℕ)
    (hf : ∀ acc k, k < n → f acc (chunk x (lo + k)) (chunk y (lo + k)) j = acc j + BitVec.ofNat 32 (h (lo + k))) :
    overChunks f x y lo init n j = init j + BitVec.ofNat 32 (∑ k ∈ Finset.range n, h (lo + k)) := by
  induction n with
  | zero => simp [overChunks]
  | succ n ih =>
    show f (overChunks f x y lo init n) _ _ j = _
    rw [hf _ n (Nat.lt_succ_self n), ih fun acc k hk => hf acc k (Nat.lt_succ_of_lt hk), Finset.sum_range_succ, BitVec.ofNat_add, BitVec.add_assoc]

section Payloads

variable (v5 : FVec Ideal S512x1 .f32) (v7 : IVec S512x1 32) (n : IVec S512x256 32) (m : Vec Ideal S1x256 .f32) (b : Vec Ideal S1x256 .i32)
  (r : Fin 512) (c : Fin 256)

open Classical in
theorem left_apply : k0_pay23 v5 v7 n m b (ix2 r c)
    = n (ix2 r c) + BitVec.ofNat 32 (if b (ix2 0 c) = v7 (ix2 r 0) ∧ m (ix2 0 c) ≤ v5 (ix2 r 0) then 1 else 0) := by
  rw [← both_test]
  pointwise [k0_pay23]
  rfl

open Classical in
theorem right_apply : k0_pay27 v5 v7 n m b (ix2 r c)
    = n (ix2 r c) + BitVec.ofNat 32 (if b (ix2 0 c) = v7 (ix2 r 0) ∧ m (ix2 0 c) < v5 (ix2 r 0) then 1 else 0) := by
  rw [← both_test]
  pointwise [k0_pay27]
  rfl

open Classical in
theorem own_apply : k0_pay25 v5 v7 n m b (ix2 r c)
    = n (ix2 r c) + BitVec.ofNat 32 (if b (ix2 0 c) = v7 (ix2 r 0)
        ∧ (m (ix2 0 c) < v5 (ix2 r 0) ∨ (m (ix2 0 c) = v5 (ix2 r 0) ∧ c.val + 0 < r.val)) then 1 else 0) := by
  have hc := c.isLt
  have hr := r.isLt
  rw [← both_test, ← tie_test _ _ _ _ _ (by omega) (by omega)]
  pointwise [k0_pay25]
  rfl

open Classical in
theorem own_apply' : k0_pay26 v5 v7 (iota .tc S512x1 32 [0] iota_S512x1_d0_w32) (iota .tc S1x256 32 [1] iota_S1x256_d1_w32) n m b (ix2 r c)
    = n (ix2 r c) + BitVec.ofNat 32 (if b (ix2 0 c) = v7 (ix2 r 0)
        ∧ (m (ix2 0 c) < v5 (ix2 r 0) ∨ (m (ix2 0 c) = v5 (ix2 r 0) ∧ c.val + 256 < r.val)) then 1 else 0) := by
  have hc := c.isLt
  have hr := r.isLt
  rw [← both_test, ← tie_test _ _ _ _ _ (by omega) (by omega)]
  pointwise [k0_pay26]
  rfl

theorem total_apply (f : Fin 256 → ℕ) (hf : ∀ c, n (ix2 r c) = BitVec.ofNat 32 (f c)) (hs : ∑ c, f c < 2 ^ 31) :
    k0_pay29 n (ix2 r 0) = BitVec.ofNat 32 (min (∑ c, f c) 513) := by
  pointwise [k0_pay29]
  simp only [hf]
  rw [fold_words, PlanTiles.minsi_word hs (by decide), min_comm]

end Payloads

/-- The words that bound the block's segments. -/
theorem least_le (x5 : Vec Ideal S512x1 .i32) (r : Fin 512) :
    (extractAt ![0, 0, 0] (shapeCast S1x1x1 (multiReductionI .minsi [1, 2] S1
      (shapeCast S1x512x1 (k0_pay17 (F := Ideal) x5) shapeCasts_S512x1_S1x512x1) 2147483647#32 reduces_S1x512x1_S1 rfl) shapeCasts_S1_S1x1x1)
      inpos_S1x1x1_p0_0_0).toInt ≤ (x5 (ix2 r 0)).toInt := by
  pointwise [k0_pay17]
  exact fold_min_le Finset.univ (fun x : Fin 512 × Fin 1 => x5 (ix2 x.1 0)) _ (r, 0) (Finset.mem_univ _)

theorem le_greatest (x5 : Vec Ideal S512x1 .i32) (r : Fin 512) :
    (x5 (ix2 r 0)).toInt ≤ (extractAt ![0, 0, 0] (k0_pay19 (F := Ideal) x5) inpos_S1x1x1_p0_0_0).toInt := by
  pointwise [k0_pay19, k0_pay17]
  exact le_fold_max Finset.univ (fun x : Fin 512 × Fin 1 => x5 (ix2 x.1 0)) _ (r, 0) (Finset.mem_univ _)

theorem ids_apply (x3 : Vec Ideal S8x2048 .i32) : k0_pay18 (F := Ideal) x3 = x3 := shapeCast_id _ _

theorem count_slt (y : IVec S8x2048 32) (w : BitVec 32) :
    (extractAt ![0, 0, 0] (shapeCast S1x1x1 (multiReductionI .add [1, 2] S1
        (shapeCast S1x8x2048 (extui 32 (cmpi .slt y (broadcast S8x2048 w)) natLt_1_32) shapeCasts_S8x2048_S1x8x2048) 0#32 reduces_S1x8x2048_S1 rfl)
        shapeCasts_S1_S1x1x1) inpos_S1x1x1_p0_0_0).toNat
      = (Finset.univ.filter fun j : S8x2048.Idx => IntOp.cmpi .slt (y j) w = 1#1).card := count_eq _

/-- The kernel counts the ids below a bound that no id of the block is below. -/
theorem below_card (x5 : Vec Ideal S512x1 .i32) (x3 : Vec Ideal S8x2048 .i32) :
    ∃ w : BitVec 32, (∀ r : Fin 512, w.toInt ≤ (x5 (ix2 r 0)).toInt) ∧ (belowCount x5 x3).toNat
      = (Finset.univ.filter fun j : S8x2048.Idx => IntOp.cmpi .slt (k0_pay18 (F := Ideal) x3 j) w = 1#1).card :=
  ⟨_, fun r => least_le x5 r, count_slt _ _⟩

theorem upto_card (x : IVec S8x2048 32) (w : BitVec 32) : (uptoCount x w).toNat
    = (Finset.univ.filter fun j : S8x2048.Idx => IntOp.cmpi .sle (x j) w = 1#1).card := count_eq _

theorem exists_place (j : S8x2048.Idx) : ∃ (p : Fin 8) (q : Fin 2048), j = ix2 p q := ⟨j 0, j 1, eq_ix2 j⟩

/-- A count over the ids as the kernel lays them out is the count over the tokens. -/
theorem card_ids {a1 : IVec S16384 32} {x3 : Vec Ideal S8x2048 .i32}
    (h3 : ∀ (p : Fin 8) (q : Fin 2048), x3 (ix2 p q) = a1 (ix1 (tok (p.val * 2048 + q.val)))) (P : BitVec 32 → Prop) [DecidablePred P] :
    (Finset.univ.filter fun j : S8x2048.Idx => P (x3 j)).card = (Finset.univ.filter fun n : Fin 16384 => P (a1 (ix1 n))).card := by
  have e : ∀ n : Fin 16384, tok (n.val / 2048 * 2048 + n.val % 2048) = n := fun n => by rw [Nat.div_add_mod']; exact tok_fin n
  refine Finset.card_bij (fun (j : S8x2048.Idx) _ => tok ((j 0).val * 2048 + (j 1).val)) ?_ ?_ ?_
  · intro j hj
    obtain ⟨p, q, rfl⟩ := exists_place j
    have hj' := (Finset.mem_filter.mp hj).2
    rw [h3] at hj'
    exact Finset.mem_filter.mpr ⟨Finset.mem_univ _, hj'⟩
  · intro j _ k _ h
    obtain ⟨p, q, rfl⟩ := exists_place j
    obtain ⟨p', q', rfl⟩ := exists_place k
    have hp := p.isLt
    have hq := q.isLt
    have hp' := p'.isLt
    have hq' := q'.isLt
    have h' : (tok (p.val * 2048 + q.val)).val = (tok (p'.val * 2048 + q'.val)).val := congrArg Fin.val h
    rw [tok_val (by omega), tok_val (by omega)] at h'
    rw [show p = p' from Fin.ext (by omega), show q = q' from Fin.ext (by omega)]
  · intro n hn
    have hn' := (Finset.mem_filter.mp hn).2
    refine ⟨ix2 (⟨n.val / 2048, by have := n.isLt; omega⟩ : Fin 8) (⟨n.val % 2048, Nat.mod_lt _ (by decide)⟩ : Fin 2048), ?_, e n⟩
    refine Finset.mem_filter.mpr ⟨Finset.mem_univ _, ?_⟩
    rw [h3, e]
    exact hn'

section Ranks

variable {mag : Fin 16384 → EReal} {a1 : IVec S16384 32} {i : grid0.Coords} {v : Ins Ideal} (hv : Finds mag a1 i v) (hs : Spec.Sorted a1)

include hs in
theorem id_int (n : Fin 16384) : (a1 (ix1 n)).toInt = (Spec.segments a1 n : ℤ) :=
  WordCmp.toInt_eq_toNat_of_lt_half (lt_trans (hs.lt n) (by decide))

/-- The token a block's row stands for. -/
theorem row_val (i : grid0.Coords) (r : Fin 512) : (tok ((i 0).val * 512 + r.val)).val = (i 0).val * 512 + r.val := by
  have hi : (i 0).val < 32 := (i 0).isLt
  have hr := r.isLt
  exact tok_val (by omega)

include hv hs in
/-- No token left of the left loop's first chunk is of a segment the block has. -/
theorem below_le_row (r : Fin 512) : below v ≤ Order.below (Spec.segments a1) (Spec.segments a1 (tok ((i 0).val * 512 + r.val))) := by
  obtain ⟨w, hw, hc⟩ := below_card v.x5 v.x3
  unfold below
  rw [hc, ids_apply, card_ids hv.x3 fun u => IntOp.cmpi .slt u w = 1#1]
  unfold Order.below
  refine Finset.card_le_card fun n hn => Finset.mem_filter.mpr ⟨Finset.mem_univ _, ?_⟩
  have hn' := (slt_iff _ _).mp (Finset.mem_filter.mp hn).2
  have hl := hw r
  rw [hv.x5, id_int hs] at hl
  rw [id_int hs] at hn'
  exact_mod_cast lt_of_lt_of_le hn' hl

include hv hs in
/-- No token right of the right loop's last chunk is of a segment the block has. -/
theorem row_le_upto (r : Fin 512) : Order.below (Spec.segments a1) (Spec.segments a1 (tok ((i 0).val * 512 + r.val)) + 1) ≤ upto v := by
  unfold upto
  rw [upto_card, ids_apply, card_ids hv.x3 fun w => IntOp.cmpi .sle w (extractAt ![0, 0, 0] (k0_pay19 v.x5) inpos_S1x1x1_p0_0_0) = 1#1]
  unfold Order.below
  refine Finset.card_le_card fun n hn => Finset.mem_filter.mpr ⟨Finset.mem_univ _, (sle_iff _ _).mpr ?_⟩
  have hn' := (Finset.mem_filter.mp hn).2
  have hl := le_greatest v.x5 r
  rw [hv.x5, id_int hs] at hl
  rw [id_int hs]
  exact le_trans (by exact_mod_cast Nat.le_of_lt_succ hn') hl

theorem chunk_at {α : Type} (x : S1x16384.Idx → α) (q : ℕ) (c : Fin 256) : chunk x q (ix2 0 c) = x (colIx (q * 256 + c.val)) := rfl

theorem score_row (x : Vec Ideal S512x1 .f32) (r : Fin 512) : k0_pay16 x (ix2 r 0) = x (ix2 r 0) := by pointwise [k0_pay16]

theorem id_row (x : Vec Ideal S512x1 .i32) (r : Fin 512) : k0_pay17 (F := Ideal) x (ix2 r 0) = x (ix2 r 0) := by pointwise [k0_pay17]

include hv hs in
/-- What a lane has counted in the end: its tokens that come before the row's. -/
theorem lane_apply (r : Fin 512) (c : Fin 256) : allCounts i v (ix2 r c)
    = BitVec.ofNat 32 (∑ q ∈ Finset.range 64, hit (Spec.segments a1) mag (tok ((i 0).val * 512 + r.val)) (q * 256 + c.val)) := by
  have hi : (i 0).val < 32 := (i 0).isLt
  have hr := r.isLt
  have hc := c.isLt
  have hrow := row_val i r
  have hlow := below_le_row hv hs r
  have hupp := row_le_upto hv hs r
  have hle : upto v ≤ 16384 := uptoCount_le _ _
  set R := tok ((i 0).val * 512 + r.val) with hR
  set h : ℕ → ℕ := fun q => hit (Spec.segments a1) mag R (q * 256 + c.val) with hh
  have zlow : ∀ q, q < below v / 256 → h q = 0 := fun q hq => by
    have hb : Order.below (Spec.segments a1) (Spec.segments a1 R) ≤ 16384 := (Finset.card_le_univ _).trans (Fintype.card_fin _).le
    refine hit_zero _ _ _ _ fun e => ?_
    have : (tok (q * 256 + c.val)).val < Order.below (Spec.segments a1) (Spec.segments a1 R) := by rw [tok_val (by omega)]; omega
    exact absurd ((Order.lt_below_iff _ hs.mono _ _).mp this) (by omega)
  have zupp : ∀ q, (upto v + 255) / 256 ≤ q → q < 64 → h q = 0 := fun q hq hq' => by
    refine hit_zero _ _ _ _ fun e => ?_
    have : ¬ (tok (q * 256 + c.val)).val < Order.below (Spec.segments a1) (Spec.segments a1 R + 1) := by rw [tok_val (by omega)]; omega
    exact this ((Order.lt_below_iff _ hs.mono _ _).mpr (by omega))
  have hleft : leftCounts i v (ix2 r c) = BitVec.ofNat 32 (∑ q ∈ Finset.range (2 * (i 0).val), h q) := by
    unfold leftCounts
    rw [overChunks_apply _ _ _ _ _ _ h _ fun acc k hk => ?_, sum_from h _ _ zlow]
    · show 0#32 + _ = _
      rw [BitVec.zero_add]
    · rw [left_apply, chunk_at, chunk_at, hv.x1, hv.x2, score_row, id_row, hv.x4, hv.x5]
      refine congrArg (fun n => _ + BitVec.ofNat 32 n) (if_congr ?_ rfl rfl)
      rw [← BitVec.toNat_inj]
      have hlt : (below v / 256 + k) * 256 + c.val < R.val := by omega
      simp only [hlt, and_true, le_iff_lt_or_eq]
      exact Iff.rfl
  have hown : ownCounts i v (ix2 r c) = BitVec.ofNat 32 (∑ q ∈ Finset.range (2 * (i 0).val + 1), h q) := by
    unfold ownCounts
    rw [own_apply, hleft, chunk_at, chunk_at, hv.x1, hv.x2, score_row, id_row, hv.x4, hv.x5, Finset.sum_range_succ, BitVec.ofNat_add]
    refine congrArg (fun n => _ + BitVec.ofNat 32 n) (if_congr ?_ rfl rfl)
    rw [← BitVec.toNat_inj]
    have hlt : (c.val + 0 < r.val) ↔ (2 * (i 0).val * 256 + c.val < R.val) := by omega
    simp only [hlt]
    exact Iff.rfl
  have hown' : ownCounts' i v (ix2 r c) = BitVec.ofNat 32 (∑ q ∈ Finset.range (2 * (i 0).val + 2), h q) := by
    unfold ownCounts'
    rw [own_apply', hown, chunk_at, chunk_at, hv.x1, hv.x2, score_row, id_row, hv.x4, hv.x5, Finset.sum_range_succ _ (2 * (i 0).val + 1), BitVec.ofNat_add]
    refine congrArg (fun n => _ + BitVec.ofNat 32 n) (if_congr ?_ rfl rfl)
    rw [← BitVec.toNat_inj]
    have hlt : (c.val + 256 < r.val) ↔ ((2 * (i 0).val + 1) * 256 + c.val < R.val) := by omega
    simp only [hlt]
    exact Iff.rfl
  unfold allCounts
  rw [overChunks_apply _ _ _ _ _ _ h _ fun acc k hk => ?_, hown', ← BitVec.ofNat_add, sum_upto h _ _ 64 (by omega) (by omega) zupp]
  · rw [right_apply, chunk_at, chunk_at, hv.x1, hv.x2, score_row, id_row, hv.x4, hv.x5]
    refine congrArg (fun n => _ + BitVec.ofNat 32 n) (if_congr ?_ rfl rfl)
    rw [← BitVec.toNat_inj]
    have hlt : ¬ (2 * (i 0).val + 2 + k) * 256 + c.val < R.val := by omega
    simp only [hlt, and_false, or_false]
    exact Iff.rfl

include hv hs in
/-- The block's ranks, capped. -/
theorem ranks_apply (r : Fin 512) : k0_pay29 (allCounts i v) (ix2 r 0)
    = BitVec.ofNat 32 (min (Order.rank (Spec.segments a1) mag (tok ((i 0).val * 512 + r.val))) 513) := by
  have hsum : ∑ c : Fin 256, ∑ q ∈ Finset.range 64, hit (Spec.segments a1) mag (tok ((i 0).val * 512 + r.val)) (q * 256 + c.val)
      = Order.rank (Spec.segments a1) mag (tok ((i 0).val * 512 + r.val)) := by
    rw [← sum_hit, show 16384 = 64 * 256 from rfl, ← sum_chunks, Finset.sum_comm]
    exact Finset.sum_congr rfl fun q _ => (Finset.sum_range fun c => hit _ _ _ (q * 256 + c)).symm
  rw [← hsum]
  refine total_apply _ r _ (fun c => lane_apply hv hs r c) ?_
  rw [hsum]
  have h := Order.rank_lt (Spec.segments a1) mag (tok ((i 0).val * 512 + r.val))
  have h' := (Finset.card_le_univ (Finset.univ.filter fun j => Spec.segments a1 j = Spec.segments a1 (tok ((i 0).val * 512 + r.val)))).trans
    (Fintype.card_fin _).le
  omega

end Ranks

end Cert.KernelIdeal.Gen
-- ==== Proof.KernelIdeal.Rows.lean ====
/-
  What one block computes from the rows and parameters it finds: the position table, the token rows, the head.
-/
module

public import proofs.«01_k».proof.Proof.KernelIdeal.Ranks

@[expose] public section

set_option maxRecDepth 16384

namespace Cert.KernelIdeal.Gen

open Idealize.ShloMosaic Cert.Counts

/-- A block finds the network's parameters. -/
structure Holds (w : Spec.Weights) (v : Ins Ideal) : Prop where
  x7 : ∀ k j : Fin 512, v.x7 (ix2 k j) = w.psiW1 k j
  x8 : ∀ j : Fin 512, v.x8 (ix2 0 j) = w.psiB1 j
  x9 : ∀ j : Fin 512, v.x9 (ix2 0 j) = w.psiG j
  x10 : ∀ j : Fin 512, v.x10 (ix2 0 j) = w.psiBe j
  x11 : ∀ k j : Fin 512, v.x11 (ix2 k j) = w.psiW2 k j
  x12 : ∀ j : Fin 512, v.x12 (ix2 0 j) = w.psiB2 j
  x13 : ∀ (k : Fin 513) (j : Fin 512), v.x13 (ix2 k j) = w.posW1 k j
  x14 : ∀ j : Fin 512, v.x14 (ix2 0 j) = w.posB1 j
  x15 : ∀ j : Fin 512, v.x15 (ix2 0 j) = w.posG j
  x16 : ∀ j : Fin 512, v.x16 (ix2 0 j) = w.posBe j
  x17 : ∀ k j : Fin 512, v.x17 (ix2 k j) = w.posW2 k j
  x18 : ∀ j : Fin 512, v.x18 (ix2 0 j) = w.posB2 j
  x19 : ∀ (k : Fin 1025) (j : Fin 768), v.x19 (ix2 k j) = w.phiW1 k j
  x20 : ∀ j : Fin 768, v.x20 (ix2 0 j) = w.phiB1 j
  x21 : ∀ (k : Fin 768) (j : Fin 512), v.x21 (ix2 k j) = w.phiW2 k j
  x22 : ∀ j : Fin 512, v.x22 (ix2 0 j) = w.phiB2 j

section Payloads

/-- The position table's first layer, -/
theorem posFirst_apply (p : Vec Ideal S513x512 .f32) (b : Vec Ideal S1x512 .f32) (r : Fin 513) (j : Fin 512) :
    k0_pay8 p b (ix2 r j) = p (ix2 r j) + b (ix2 0 j) := by
  pointwise [k0_pay8]

/-- that of the rows past its last, -/
theorem posPast_apply (b : Vec Ideal S1x512 .f32) (r : Fin 8) (j : Fin 512) : k0_pay11 b (ix2 r j) = 0 + b (ix2 0 j) := by
  pointwise [k0_pay11]

/-- the rest of the network, -/
theorem posRest_apply (h : FVec Ideal S513x512 .f32) (g : Vec Ideal S1x512 .f32) (be : Vec Ideal S1x512 .f32) (w : Vec Ideal S512x512 .f32)
    (b : Vec Ideal S1x512 .f32) (r : Fin 513) (j : Fin 512) :
    k0_pay10 h (k0_pay9 g) be w b (ix2 r j) = Spec.dense (Spec.normed (fun j => h (ix2 r j)) (fun j => g (ix2 0 j)) fun j => be (ix2 0 j))
      (fun k j => w (ix2 k j)) (fun j => b (ix2 0 j)) j := by
  pointwise [k0_pay10, k0_pay9, Spec.dense, Spec.normed, Spec.mean, Spec.spread]

/-- and the table. -/
theorem posTable_apply (y : FVec Ideal S513x512 .f32) (h : FVec Ideal S8x512 .f32) (g : Vec Ideal S1x512 .f32) (be : Vec Ideal S1x512 .f32)
    (w : Vec Ideal S512x512 .f32) (b : Vec Ideal S1x512 .f32) (r : Fin 520) (j : Fin 512) :
    k0_pay13 y h (k0_pay12 g) be w b (ix2 r j) = if hr : r.val < 513 then y (ix2 ⟨r.val, hr⟩ j) else
      Spec.dense (Spec.normed (fun j => h (ix2 ⟨r.val - 513, by have := r.isLt; omega⟩ j)) (fun j => g (ix2 0 j)) fun j => be (ix2 0 j))
        (fun k j => w (ix2 k j)) (fun j => b (ix2 0 j)) j := by
  pointwise [k0_pay13, k0_pay12, Spec.dense, Spec.normed, Spec.mean, Spec.spread]

/-- A token row: the token network's, times the row of the table its rank picks. -/
theorem tokenRow_apply (n : IVec S512x1 32) (x : Vec Ideal S512x512 .f32) (w1 : Vec Ideal S512x512 .bf16) (b1 g be : Vec Ideal S1x512 .f32)
    (w2 : Vec Ideal S512x512 .bf16) (b2 : Vec Ideal S1x512 .f32) (pet : Vec Ideal S520x512 .bf16) (r : Fin 512) (j : Fin 512) :
    k0_pay31 n (k0_pay30 x w1 b1) g be w2 b2 pet (ix2 r j)
      = Spec.dense (Spec.normed (Spec.dense (fun k => x (ix2 r k)) (fun k j => w1 (ix2 k j)) fun j => b1 (ix2 0 j)) (fun j => g (ix2 0 j)) fun j => be (ix2 0 j))
          (fun k j => w2 (ix2 k j)) (fun j => b2 (ix2 0 j)) j
        * ∑ k : Fin 520, (if n (ix2 r 0) = BitVec.ofNat 32 k.val then 1 else 0) * pet (ix2 k j) := by
  have h1 : Spec.dense (fun k => x (ix2 r k)) (fun k j => w1 (ix2 k j)) (fun j => b1 (ix2 0 j)) = fun k => k0_pay30 x w1 b1 (ix2 r k) := by
    funext k
    pointwise [k0_pay30, Spec.dense]
  rw [h1]
  generalize k0_pay30 x w1 b1 = h
  pointwise [k0_pay31, Spec.dense, Spec.normed, Spec.mean, Spec.spread, Spec.signed_test]

/-- A block's part of the segments' sums. -/
theorem part_apply (y : FVec Ideal S512x512 .f32) (x5 : Vec Ideal S512x1 .i32) (s : Fin 64) (j : Fin 512) :
    k0_pay1 y segIota x5 (ix2 s j) = ∑ r : Fin 512, (if x5 (ix2 r 0) = BitVec.ofNat 32 s.val then 1 else 0) * y (ix2 r j) := by
  pointwise [k0_pay1, segIota, Spec.signed_test]

theorem begin_apply (y : FVec Ideal S512x512 .f32) (x5 : Vec Ideal S512x1 .i32) (s : Fin 64) (j : Fin 512) :
    k0_pay2 y segIota x5 (ix2 s j) = k0_pay1 y segIota x5 (ix2 s j) := by
  pointwise [k0_pay2]

theorem add_apply (y : FVec Ideal S512x512 .f32) (x5 : Vec Ideal S512x1 .i32) (a : Vec Ideal S64x512 .f32) (s : Fin 64) (j : Fin 512) :
    k0_pay3 y segIota x5 a (ix2 s j) = a (ix2 s j) + k0_pay1 y segIota x5 (ix2 s j) := by
  pointwise [k0_pay3]

/-- The head. -/
theorem head_apply (y : Vec Ideal S64x512 .f32) (p : Vec Ideal S512x768 .f32) (n : Vec Ideal S64x1 .i32) (q : Vec Ideal S513x768 .f32)
    (b : Vec Ideal S1x768 .f32) (w2 : Vec Ideal S768x512 .f32) (b2 : Vec Ideal S1x512 .f32) (s : Fin 64) (j : Fin 512) :
    k0_pay4 y p n q b w2 b2 (ix2 s j) = Spec.dense (fun k : Fin 768 => Ideal.tanh ((∑ i : Fin 512, y (ix2 s i) * p (ix2 i k))
      + (∑ i : Fin 513, (if n (ix2 s 0) = BitVec.ofNat 32 i.val then 1 else 0) * q (ix2 i k)) + b (ix2 0 k)))
      (fun k j => w2 (ix2 k j)) (fun j => b2 (ix2 0 j)) j := by
  pointwise [k0_pay4, Spec.dense, Spec.signed_test]

theorem narrow_apply (x : Vec Ideal S512x512 .f32) (k j : Fin 512) : k0_pay14 x (ix2 k j) = x (ix2 k j) := by pointwise [k0_pay14]

theorem narrow_apply' (x : Vec Ideal S512x512 .f32) (k j : Fin 512) : k0_pay15 x (ix2 k j) = x (ix2 k j) := by pointwise [k0_pay15]

end Payloads

section Blocks

variable {w : Spec.Weights} {x : Fin 16384 → Spec.Row} {a1 : IVec S16384 32} {i : grid0.Coords} {v : Ins Ideal}

/-- The position table holds every position's row. -/
theorem petOf_apply (hw : Holds w v) (r : Fin 520) (j : Fin 512) : petOf v (ix2 r j) = Spec.pos w r.val j := by
  unfold petOf Spec.pos
  rw [posTable_apply]
  simp only [posRest_apply, posFirst_apply, posPast_apply, hw.x13, hw.x14, hw.x15, hw.x16, hw.x17, hw.x18]
  split
  · rename_i h
    simp only [Spec.posPick, dif_pos h]
  · rename_i h
    simp only [Spec.posPick, dif_neg h]

/-- The segments' sizes, counted eight chunks one after another. -/
theorem countsOf_apply (h2 : ∀ n, v.x2 (colIx n) = a1 (ix1 (tok n))) (s : Fin 64) :
    countsOf v (ix2 s 0) = BitVec.ofNat 32 (Spec.size (Spec.segments a1) s.val) := by
  have hc : ∀ q (c : Fin 2048), wideChunk v.x2 q (ix2 0 c) = a1 (ix1 (tok (q * 2048 + c.val))) := fun q c => h2 _
  have hsize : Spec.size (Spec.segments a1) s.val
      = ∑ q ∈ Finset.range 8, ∑ c : Fin 2048, if a1 (ix1 (tok (q * 2048 + c.val))) = BitVec.ofNat 32 s.val then 1 else 0 := by
    have := s.isLt
    unfold Spec.size
    rw [Finset.card_filter]
    have e : ∀ i : Fin 16384, (if Spec.segments a1 i = s.val then 1 else 0)
        = (fun n => if a1 (ix1 (tok n)) = BitVec.ofNat 32 s.val then 1 else 0) i.val := fun i => by
      simp only [tok_fin]
      refine if_congr ?_ rfl rfl
      rw [← BitVec.toNat_inj, BitVec.toNat_ofNat, Nat.mod_eq_of_lt (by omega)]
      exact Iff.rfl
    rw [Finset.sum_congr rfl fun i _ => e i]
    exact sum_tokens (fun n => if a1 (ix1 (tok n)) = BitVec.ofNat 32 s.val then 1 else 0) rfl
  rw [hsize]
  pointwise [countsOf, k0_pay5, k0_pay6, k0_pay7]
  simp only [hc, word_test, fold_words]
  simp only [Finset.sum_range_succ, Finset.sum_range_zero, BitVec.ofNat_add]
  rfl

/-- One token's part of a segment's pooled row. -/
noncomputable def term (w : Spec.Weights) (x : Fin 16384 → Spec.Row) (a1 : IVec S16384 32) (s : ℕ) (j : Fin 512) (n : ℕ) : EReal :=
  if Spec.segments a1 (tok n) = s then
    Spec.psi w (x (tok n)) j * Spec.pos w (Order.rank (Spec.segments a1) (Spec.score w x) (tok n)) j
  else 0

/-- All the tokens' parts make the pooled row. -/
theorem sum_term (s : ℕ) (j : Fin 512) :
    ∑ q ∈ Finset.range 32, ∑ r : Fin 512, term w x a1 s j (q * 512 + r.val) = Spec.pooled w x (Spec.segments a1) s j := by
  rw [← sum_tokens (N := 16384) (term w x a1 s j) rfl]
  unfold term Spec.pooled
  simp only [tok_fin]

/-- What a block finds of the tokens: their scores and segments, and its own rows. -/
structure Sees (w : Spec.Weights) (x : Fin 16384 → Spec.Row) (a1 : IVec S16384 32) (i : grid0.Coords) (v : Ins Ideal) : Prop where
  finds : Finds (Spec.score w x) a1 i v
  holds : Holds w v
  x6 : ∀ r k : Fin 512, v.x6 (ix2 r k) = x (tok ((i 0).val * 512 + r.val)) k

/-- What the scratch holds after block `t`. -/
structure Keeps (w : Spec.Weights) (x : Fin 16384 → Spec.Row) (a1 : IVec S16384 32) (t : ℕ) (s : Scr Ideal) : Prop where
  pet : ∀ (r : Fin 520) (j : Fin 512), s.pet (ix2 r j) = Spec.pos w r.val j
  w1 : ∀ k j : Fin 512, s.w1 (ix2 k j) = w.psiW1 k j
  w2 : ∀ k j : Fin 512, s.w2 (ix2 k j) = w.psiW2 k j
  acc : ∀ (a : Fin 64) (j : Fin 512), s.acc (ix2 a j) = ∑ q ∈ Finset.range (t + 1), ∑ r : Fin 512, term w x a1 a.val j (q * 512 + r.val)
  cnt : ∀ a : Fin 64, s.cnt (ix2 a 0) = BitVec.ofNat 32 (Spec.size (Spec.segments a1) a.val)

/-- The block's token rows. -/
theorem tokenRows_apply (hv : Sees w x a1 i v) (hs : Spec.Sorted a1) {pet : Vec Ideal S520x512 .bf16} {w1 w2 : Vec Ideal S512x512 .bf16}
    (hp : ∀ (r : Fin 520) (j : Fin 512), pet (ix2 r j) = Spec.pos w r.val j) (h1 : ∀ k j : Fin 512, w1 (ix2 k j) = w.psiW1 k j)
    (h2 : ∀ k j : Fin 512, w2 (ix2 k j) = w.psiW2 k j) (r j : Fin 512) :
    tokenRows i v pet w1 w2 (ix2 r j) = Spec.psi w (x (tok ((i 0).val * 512 + r.val))) j
      * Spec.pos w (Order.rank (Spec.segments a1) (Spec.score w x) (tok ((i 0).val * 512 + r.val))) j := by
  unfold tokenRows
  rw [tokenRow_apply, ranks_apply hv.finds hs]
  simp only [hp, h1, h2, hv.x6, hv.holds.x8, hv.holds.x9, hv.holds.x10, hv.holds.x12]
  refine congrArg₂ (· * ·) rfl ?_
  rw [← Spec.pos_min]
  generalize Order.rank _ _ _ = n
  have e : ∀ k : Fin 520, (if BitVec.ofNat 32 (min n 513) = BitVec.ofNat 32 k.val then (1 : EReal) else 0) * Spec.pos w k.val j
      = (if min n 513 = k.val then 1 else 0) * (fun k : Fin 520 => Spec.pos w k.val j) k := fun k => by
    have hk := k.isLt
    exact congrArg (· * Spec.pos w k.val j) (if_congr (Spec.word_eq_iff (by omega) (by omega)) rfl rfl)
  rw [Finset.sum_congr rfl fun k _ => e k, Spec.sum_pick, dif_pos (by omega)]

/-- A block's part of a segment's sum. -/
theorem partOf_apply (hv : Sees w x a1 i v) (hs : Spec.Sorted a1) {pet : Vec Ideal S520x512 .bf16} {w1 w2 : Vec Ideal S512x512 .bf16}
    (hp : ∀ (r : Fin 520) (j : Fin 512), pet (ix2 r j) = Spec.pos w r.val j) (h1 : ∀ k j : Fin 512, w1 (ix2 k j) = w.psiW1 k j)
    (h2 : ∀ k j : Fin 512, w2 (ix2 k j) = w.psiW2 k j) (s : Fin 64) (j : Fin 512) :
    k0_pay1 (tokenRows i v pet w1 w2) segIota v.x5 (ix2 s j) = ∑ r : Fin 512, term w x a1 s.val j ((i 0).val * 512 + r.val) := by
  rw [part_apply]
  refine Finset.sum_congr rfl fun r _ => ?_
  have hs' := s.isLt
  rw [tokenRows_apply hv hs hp h1 h2, hv.finds.x5]
  unfold term
  have e : a1 (ix1 (tok ((i 0).val * 512 + r.val))) = BitVec.ofNat 32 s.val ↔ Spec.segments a1 (tok ((i 0).val * 512 + r.val)) = s.val := by
    rw [← BitVec.toNat_inj, BitVec.toNat_ofNat, Nat.mod_eq_of_lt (by omega)]
    exact Iff.rfl
  rw [if_congr e rfl rfl, ite_mul, one_mul, zero_mul]

/-- The first block's scratch. -/
theorem firstScr_keeps (hv : Sees w x a1 i v) (hs : Spec.Sorted a1) (h0 : (i 0).val = 0) : Keeps w x a1 0 (firstScr i v) where
  pet := petOf_apply hv.holds
  w1 k j := (narrow_apply _ k j).trans (hv.holds.x7 k j)
  w2 k j := (narrow_apply' _ k j).trans (hv.holds.x11 k j)
  acc a j := by
    refine (begin_apply _ _ a j).trans ?_
    rw [partOf_apply hv hs (petOf_apply hv.holds) (fun k j => (narrow_apply _ k j).trans (hv.holds.x7 k j))
      (fun k j => (narrow_apply' _ k j).trans (hv.holds.x11 k j)), h0, Finset.sum_range_one]
  cnt a := countsOf_apply hv.finds.x2 a

/-- A later block's scratch. -/
theorem nextScr_keeps (hv : Sees w x a1 i v) (hs : Spec.Sorted a1) {t : ℕ} {s : Scr Ideal} (hk : Keeps w x a1 t s) (ht : (i 0).val = t + 1) :
    Keeps w x a1 (t + 1) (nextScr i v s) where
  pet := hk.pet
  w1 := hk.w1
  w2 := hk.w2
  acc a j := by
    refine (add_apply _ _ _ a j).trans ?_
    rw [partOf_apply hv hs hk.pet hk.w1 hk.w2, hk.acc, ht, Finset.sum_range_succ _ (t + 1)]
  cnt := hk.cnt

theorem phiTop_apply (y : Vec Ideal S1025x768 .f32) (k : Fin 512) (j : Fin 768) : phiTop y (ix2 k j) = y (ix2 (k.castLE (by omega)) j) := by
  refine congrArg y (funext fun d => ?_)
  match d with
  | 0 => rfl
  | 1 => rfl

theorem phiBot_apply (y : Vec Ideal S1025x768 .f32) (k : Fin 513) (j : Fin 768) : phiBot y (ix2 k j) = y (ix2 (k.natAdd 512) j) := by
  refine congrArg y (funext fun d => ?_)
  match d with
  | 0 => rfl
  | 1 => rfl

/-- What the last block writes out is the network's result. -/
theorem outOf_apply (hw : Holds w v) {s : Scr Ideal} (hk : Keeps w x a1 31 s) (a : Fin 64) (j : Fin 512) :
    outOf v s (ix2 a j) = Spec.result w x (Spec.segments a1) a.val j := by
  have hb : Spec.size (Spec.segments a1) a.val ≤ 16384 := (Finset.card_le_univ _).trans (Fintype.card_fin _).le
  have e : ∀ k : Fin 513, (if BitVec.ofNat 32 (Spec.size (Spec.segments a1) a.val) = BitVec.ofNat 32 k.val then (1 : EReal) else 0)
      = if Spec.size (Spec.segments a1) a.val = k.val then 1 else 0 := fun k => by
    have hk := k.isLt
    exact if_congr (Spec.word_eq_iff (by omega) (by omega)) rfl rfl
  unfold outOf
  rw [head_apply]
  have hy : ∀ k, s.acc (ix2 a k) = Spec.pooled w x (Spec.segments a1) a.val k := fun k => (hk.acc a k).trans (sum_term a.val k)
  simp only [hy, hk.cnt, e, phiTop_apply, phiBot_apply, hw.x19, hw.x20, hw.x21, hw.x22]
  unfold Spec.result Spec.head
  rfl

end Blocks

end Cert.KernelIdeal.Gen
-- ==== Proof.KernelIdeal.Inputs.lean ====
/-
  What each block finds of the arguments.
-/
module

public import proofs.«01_k».proof.Proof.KernelIdeal.Region
public import proofs.«01_k».proof.Proof.KernelIdeal.Rows
public import Idealize.ShloMosaic.Lib.Pipeline.ValueKit

@[expose] public section

set_option maxRecDepth 16384

namespace Cert.KernelIdeal.Gen

open Idealize.ShloMosaic Idealize.ShloMosaic.TcCoe Idealize.ShloMosaic.Tactic Idealize.SL.Sem Cert.Counts

variable (m : (ℓ : Loc nD τ sig) → Buf (Elt Ideal) ℓ) (c : Dev nD)

/-- Three of the inputs come in blocks, one a point; -/
theorem idx_blocks : ∀ t : Fin grid0.N, win0_3.index t = ![(grid0.coords t 0).val, 0] ∧ win0_4.index t = ![(grid0.coords t 0).val, 0]
    ∧ win0_5.index t = ![(grid0.coords t 0).val, 0] := by decide +kernel

/-- the others are whole. -/
theorem idx_whole : ∀ t : Fin grid0.N, win0_0.index t = ![0, 0] ∧ win0_1.index t = ![0, 0] ∧ win0_2.index t = ![0, 0] ∧ win0_6.index t = ![0, 0] ∧ win0_7.index t = ![0, 0]
    ∧ win0_8.index t = ![0, 0] ∧ win0_9.index t = ![0, 0] ∧ win0_10.index t = ![0, 0] ∧ win0_11.index t = ![0, 0] ∧ win0_12.index t = ![0, 0]
    ∧ win0_13.index t = ![0, 0] ∧ win0_14.index t = ![0, 0] ∧ win0_15.index t = ![0, 0] ∧ win0_16.index t = ![0, 0] ∧ win0_17.index t = ![0, 0]
    ∧ win0_18.index t = ![0, 0] ∧ win0_19.index t = ![0, 0] ∧ win0_20.index t = ![0, 0] ∧ win0_21.index t = ![0, 0] := by decide +kernel

/-- A place of a row of 16384 by its token. -/
theorem colIx_tok (n : ℕ) : colIx n = (ix2 0 (tok n) : S1x16384.Idx) :=
  funext fun a => by
    match a with
    | 0 => rfl
    | 1 => rfl

/-- The parameters as the arguments hold them. -/
def weights : Spec.Weights :=
  Spec.ofArrays (m ((c.tc : Thread nD τ).loc main_arg2)) (m ((c.tc : Thread nD τ).loc main_arg3)) (m ((c.tc : Thread nD τ).loc main_arg4))
    (m ((c.tc : Thread nD τ).loc main_arg5)) (m ((c.tc : Thread nD τ).loc main_arg6)) (m ((c.tc : Thread nD τ).loc main_arg7))
    (m ((c.tc : Thread nD τ).loc main_arg8)) (m ((c.tc : Thread nD τ).loc main_arg9)) (m ((c.tc : Thread nD τ).loc main_arg10))
    (m ((c.tc : Thread nD τ).loc main_arg11)) (m ((c.tc : Thread nD τ).loc main_arg12)) (m ((c.tc : Thread nD τ).loc main_arg13))
    (m ((c.tc : Thread nD τ).loc main_arg14)) (m ((c.tc : Thread nD τ).loc main_arg15)) (m ((c.tc : Thread nD τ).loc main_arg16))
    (m ((c.tc : Thread nD τ).loc main_arg17)) (m ((c.tc : Thread nD τ).loc main_arg18)) (m ((c.tc : Thread nD τ).loc main_arg19))

/-- The tokens' rows as the argument holds them. -/
def rowsOf : Fin 16384 → Spec.Row := Spec.tokens (m ((c.tc : Thread nD τ).loc main_arg0))

/-- The tokens' segments as the argument holds them. -/
def batchOf : IVec S16384 32 := m ((c.tc : Thread nD τ).loc main_arg1)

set_option maxHeartbeats 2000000 in
/-- The parameters' inputs hold the parameters at every point. -/
theorem holds (t : Fin cfg0.N) : Holds (weights m c) (insOf m c t) := by
  constructor <;> intros <;> dsimp only [insOf, weights, Spec.ofArrays] <;> blk_ext! [iblk, V, idx_whole t]

/-- The scores before the launch, as a row -/
theorem row_of_scores (n : Fin 16384) : V m c main_v5 (ix2 0 n) = Spec.score (weights m c) (rowsOf m c) n := by
  entry_read
  pointwise
  rfl

/-- and as a column. -/
theorem column_of_scores (n : Fin 16384) : V m c main_v8 (ix2 n 0) = Spec.score (weights m c) (rowsOf m c) n := by
  entry_read
  pointwise
  rfl

/-- What a point finds of the row: all of it; -/
theorem scores_in_row (t : Fin cfg0.N) (n : Fin 16384) : iblk m c 0 t (ix2 0 n) = Spec.score (weights m c) (rowsOf m c) n := by
  rw [← row_of_scores]
  blk_ext [iblk, idx_whole t]

/-- of the column: its block. -/
theorem scores_in_block (t : Fin cfg0.N) (r : Fin 512) :
    iblk m c 3 t (ix2 r 0) = Spec.score (weights m c) (rowsOf m c) (tok ((grid0.coords t 0).val * 512 + r.val)) := by
  have ht : (grid0.coords t 0).val < 32 := (grid0.coords t 0).isLt
  have := tok_val (n := (grid0.coords t 0).val * 512 + r.val) (by have := r.isLt; omega)
  rw [← column_of_scores]
  blk_ext [iblk, idx_blocks t]

/-- The segments, a row of them, -/
theorem segment_row (t : Fin cfg0.N) (n : Fin 16384) : iblk m c 1 t (ix2 0 n) = batchOf m c (ix1 n) := by
  unfold batchOf
  blk_ext! [iblk, V, idx_whole t]

/-- eight rows of them, -/
theorem segment_rows (t : Fin cfg0.N) (p : Fin 8) (q : Fin 2048) : iblk m c 2 t (ix2 p q) = batchOf m c (ix1 (tok (p.val * 2048 + q.val))) := by
  have := tok_val (n := p.val * 2048 + q.val) (by have := q.isLt; have := p.isLt; omega)
  unfold batchOf
  blk_ext! [iblk, V, idx_whole t]

/-- and a block of a column of them. -/
theorem segment_block (t : Fin cfg0.N) (r : Fin 512) : iblk m c 4 t (ix2 r 0) = batchOf m c (ix1 (tok ((grid0.coords t 0).val * 512 + r.val))) := by
  have ht : (grid0.coords t 0).val < 32 := (grid0.coords t 0).isLt
  have := tok_val (n := (grid0.coords t 0).val * 512 + r.val) (by have := r.isLt; omega)
  unfold batchOf
  blk_ext! [iblk, V, idx_blocks t]

/-- A block of the tokens' rows. -/
theorem rows_block (t : Fin cfg0.N) (r k : Fin 512) : iblk m c 5 t (ix2 r k) = rowsOf m c (tok ((grid0.coords t 0).val * 512 + r.val)) k := by
  have ht : (grid0.coords t 0).val < 32 := (grid0.coords t 0).isLt
  have := tok_val (n := (grid0.coords t 0).val * 512 + r.val) (by have := r.isLt; omega)
  unfold rowsOf Spec.tokens
  blk_ext [iblk, V, idx_blocks t]

/-- What a point finds in its inputs. -/
theorem sees (t : Fin cfg0.N) : Sees (weights m c) (rowsOf m c) (batchOf m c) (grid0.coords t) (insOf m c t) where
  finds :=
    { x1 := fun n => by rw [colIx_tok]; exact scores_in_row m c t (tok n)
      x2 := fun n => by rw [colIx_tok]; exact segment_row m c t (tok n)
      x3 := segment_rows m c t
      x4 := scores_in_block m c t
      x5 := segment_block m c t }
  holds := holds m c t
  x6 := rows_block m c t

end Cert.KernelIdeal.Gen
-- ==== Proof.KernelIdeal.Value.lean ====
/-
  What the kernel's result holds after the run.
-/
module

public import proofs.«01_k».proof.Proof.KernelIdeal.Launched
public import proofs.«01_k».proof.Proof.KernelIdeal.Inputs

@[expose] public section

set_option maxRecDepth 16384

noncomputable section

namespace Cert.KernelIdeal.Gen

open Idealize.ShloMosaic Idealize.ShloMosaic.TcCoe Idealize.ShloMosaic.Tactic Idealize.SL.Sem Cert.Counts

variable (m : (ℓ : Loc nD τ sig) → Buf (Elt Ideal) ℓ) (ρ : Dev nD → PrngReg) (c : Dev nD)

/-- A point's coordinate is its number. -/
theorem coord_val : ∀ t : Fin grid0.N, (grid0.coords t 0).val = t.val := by decide +kernel

/-- Where the segments are sorted, the scratch keeps the sums over the tokens met so far. -/
theorem scrAfter_keeps (hs : Spec.Sorted (batchOf m c)) : ∀ (n : ℕ) (h : n < cfg0.N), Keeps (weights m c) (rowsOf m c) (batchOf m c) n (scrAfter m c n h)
  | 0, h => firstScr_keeps (sees m c ⟨0, h⟩) hs (coord_val ⟨0, h⟩)
  | n + 1, h => nextScr_keeps (sees m c ⟨n + 1, h⟩) hs (scrAfter_keeps hs n (Nat.lt_of_succ_lt h)) (coord_val ⟨n + 1, h⟩)

/-- The last point. -/
def lastPt : Fin cfg0.N := ⟨31, Nat.lt_of_lt_of_eq (by decide) N_0.symm⟩

/-- What the last point leaves in the output block. -/
def finalOut : FVec Ideal S64x512 .f32 := outOf (insOf m c lastPt) (scrAfter m c 31 lastPt.isLt)

/-- It is the specification's result. -/
theorem finalOut_apply (hs : Spec.Sorted (batchOf m c)) (a : Fin 64) (j : Fin 512) :
    finalOut m c (ix2 a j) = Spec.result (weights m c) (rowsOf m c) (Spec.segments (batchOf m c)) a.val j :=
  outOf_apply (holds m c lastPt) (scrAfter_keeps m c hs 31 lastPt.isLt) a j

theorem after_last : (dats m 0 c).after 22 lastPt = finalOut m c := after0_22 m c lastPt

/-- The result array is what the last point leaves. -/
theorem arrAt_out : (dats m 0 c).arrAt 22 cfg0.N = finalOut m c := by
  refine (dats m 0 c).arrAt_eq_of_after_last 22 lastPt (by decide +kernel) _ fun j => ?_
  rw [after_last]
  blk_simp
  exact congrArg (finalOut m c) (funext fun _ => rfl)

set_option backward.isDefEq.respectTransparency.types false in
/-- Every run ends with the result at what the last point leaves and the arguments unchanged. -/
theorem value_run : θ_run defs (onTc (τ := τ) (main (F := Ideal))) ⟨m, fun _ => 0, ρ⟩ (fun r => ∀ c : Dev nD,
      r.2.mem ((c.tc : Thread nD τ).loc main_v20) = finalOut m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)) :=
  (θ_run defs _ _).mono (fun _ h c => ⟨((h.1.1 c).1 22).trans (arrAt_out m c), h.2.1 c⟩) (θ_run_and (run_launch m ρ) (frame m ρ))

end Cert.KernelIdeal.Gen
-- ==== Proof.Reference.Stages.lean ====
/-
  The reference's result, its values named stage by stage.
-/
module

public import proofs.«01_k».proof.Proof.Gen.ReferenceIdeal.Run

@[expose] public section

namespace Cert.ReferenceIdeal

open Cert.ReferenceIdeal.Gen Idealize.ShloMosaic Idealize.ShloMosaic.TcCoe Idealize.SL.Sem Idealize.ShloMosaic.StableHlo

noncomputable section

variable {F : FTy → Type} [FloatOps F]

/-- A vector of 512 over every row. -/
def overRows (v : FVec F S512 .f32) : FVec F S16384x512 .f32 :=
  broadcastInDim S16384x512 ![0, 1] bcast_S1x512_S16384x512_0_1 (broadcastInDim S1x512 ![1] bcast_S512_S1x512_1 v)

/-- A column over every feature. -/
def overCols (v : FVec F S16384x1 .f32) : FVec F S16384x512 .f32 :=
  broadcastInDim S16384x512 ![0, 1] bcast_S16384x1_S16384x512_0_1 v

/-- The sum of each row, as a column. -/
def rowSums (h : FVec F S16384x512 .f32) : FVec F S16384x1 .f32 :=
  broadcastInDim S16384x1 ![0] bcast_S16384_S16384x1_0
    (Host.reduceAdd h (constant S_ .f32 0x00000000#32) reducesTo_S16384x512_S16384_d1 h_S_)

/-- One number down a column. -/
def column (v : FVec F S_ .f32) : FVec F S16384x1 .f32 := broadcastInDim S16384x1 ![] bcast_S_S16384x1 v

/-- Each row's mean. -/
def means (h : FVec F S16384x512 .f32) : FVec F S16384x1 .f32 :=
  Host.divf (rowSums h) (column (constant S_ .f32 0x44000000#32))

/-- The rows' length, less nothing. -/
def lengthLess : FVec F S_ .f32 := subf (constant S_ .f32 0x44000000#32) (sitofp .f32 (constantI S_ 32 0#32))

/-- Each row's variance. -/
def variances (h : FVec F S16384x512 .f32) : FVec F S16384x1 .f32 :=
  select (broadcastInDim S16384x1 ![] bcast_S_S16384x1 (cmpf .ogt (lengthLess (F := F)) (constant S_ .f32 0x00000000#32)))
    (Host.divf (rowSums (mulf (subf h (overCols (means h))) (subf h (overCols (means h))))) (column lengthLess))
    (column (id (constant S_ .f32 0x7FC00000#32)))

/-- Each row normalised, scaled and shifted, through the hyperbolic tangent. -/
def normRows (h : FVec F S16384x512 .f32) (g be : FVec F S512 .f32) : FVec F S16384x512 .f32 :=
  Host.tanh (addf (mulf (Host.divf (subf h (overCols (means h)))
    (overCols (Host.sqrt (addf (variances h) (column (constant S_ .f32 0x3727C5AC#32)))))) (overRows g)) (overRows be))

/-- Rows through a matrix, plus a bias. -/
def denseRows (h : FVec F S16384x512 .f32) (W : FVec F S512x512 .f32) (b : FVec F S512 .f32) : FVec F S16384x512 .f32 :=
  addf (Host.dotGeneral dot_S16384x512_S512x512_S16384x512_1_0_0_1_n_n none h W) (overRows b)

/-- The tokens' scores. -/
def scores (a0 : FVec F S16384x512 .f32) (a2 : FVec F S512x1 .f32) (a3 : FVec F S1 .f32) : FVec F S16384 .f32 :=
  shapeCast _ (addf (Host.dotGeneral dot_S16384x512_S512x1_S16384x1_1_0_0_1_n_n none a0 a2)
    (broadcastInDim S16384x1 ![0, 1] bcast_S1x1_S16384x1_0_1 (broadcastInDim S1x1 ![1] bcast_S1_S1x1_1 a3))) shapeCasts_S16384x1_S16384

/-- The tokens in the order of their segment, then of their score. -/
def order (a1 : IVec S16384 32) (mag : FVec F S16384 .f32) : IVec S16384 32 :=
  (Host.sort3 S16384 0 comparator_i32_f32_i32_d0 a1 mag (iotaInDim S16384 32 0)).2.2

/-- A negative place counts from the end of a list of `n` words. -/
def wrapped (v : IVec S16384 32) (n : BitVec 32) : IVec S16384x1 32 :=
  broadcastInDim S16384x1 ![0] bcast_S16384_S16384x1_0
    (select (cmpi .slt v (broadcastInDim S16384 ![] bcast_S_S16384 (constantI S_ 32 0#32)))
      (addi v (broadcastInDim S16384 ![] bcast_S_S16384 (constantI S_ 32 n))) v)

/-- The tokens' rows in a given order. -/
def rowsAt (a0 : FVec F S16384x512 .f32) (ord : IVec S16384 32) : FVec F S16384x512 .f32 :=
  Host.gather gather_S16384x512_S16384x1_S16384x512_1_0_n_n_0_1_1512 a0 (wrapped ord 16384#32)

/-- The segments' sizes. -/
def sizes (a1 : IVec S16384 32) : IVec S64 32 :=
  fptosi 32 (Host.scatterAdd scatter_S64_S16384x1_S16384_n_0_0_1 (broadcastInDim S64 ![] bcast_S_S64 (constant S_ .f32 0x00000000#32))
    (broadcastInDim S16384x1 ![0] bcast_S16384_S16384x1_0 a1)
    (broadcastInDim S16384 ![] bcast_S_S16384 (constant S_ .f32 0x3F800000#32)) : FVec F S64 .f32)

/-- The segments' starts, and the end of the last one. -/
def starts (n : IVec S64 32) : IVec S65 32 :=
  concatenate S65 0 [⟨S1, broadcastInDim S1 ![] bcast_S_S1 (constantI S_ 32 0#32)⟩,
    ⟨S64, Host.reduceWindow IntOp.addi ![64] ![1] ![63] ![0] n (broadcastInDim S_ ![] bcast_S_S_ (constantI S_ 32 0#32))
      reduceWindows_S64_S64_w64s1p63_0 h_S_⟩] concatenates_S1_S64_S65_d0

/-- Each place's distance from the start of its segment. -/
def keys (a1 : IVec S16384 32) (st : IVec S65 32) : IVec S16384 32 :=
  subi (iotaInDim S16384 32 0) (Host.gather gather_S65_S16384x1_S16384_n_0_n_n_0_1_1 st (wrapped a1 65#32))

/-- The keys' unit rows. -/
def keyRows (k : IVec S16384 32) : FVec F S16384x513 .f32 :=
  uitofp .f32 (cmpi .eq (broadcastInDim S16384x513 ![0, 1] bcast_S16384x1_S16384x513_0_1 (broadcastInDim S16384x1 ![0] bcast_S16384_S16384x1_0 k))
    (broadcastInDim S16384x513 ![0, 1] bcast_S1x513_S16384x513_0_1 (iotaInDim S1x513 32 1)))

/-- The sizes' unit rows. -/
def sizeRows (n : IVec S64 32) : FVec F S64x513 .f32 :=
  uitofp .f32 (cmpi .eq (broadcastInDim S64x513 ![0, 1] bcast_S64x1_S64x513_0_1 (broadcastInDim S64x1 ![0] bcast_S64_S64x1_0 n))
    (broadcastInDim S64x513 ![0, 1] bcast_S1x513_S64x513_0_1 (iotaInDim S1x513 32 1)))

/-- The position network's first layer. -/
def posRows (k : FVec F S16384x513 .f32) (a10 : FVec F S513x512 .f32) (a11 : FVec F S512 .f32) : FVec F S16384x512 .f32 :=
  addf (Host.dotGeneral dot_S16384x513_S513x512_S16384x512_1_0_0_1_n_n none k a10) (overRows a11)

/-- The rows summed by segment. -/
def segmentSums (a1 : IVec S16384 32) (y : FVec F S16384x512 .f32) : FVec F S64x512 .f32 :=
  Host.scatterAdd scatter_S64x512_S16384x1_S16384x512_1_0_0_1 (broadcastInDim S64x512 ![] bcast_S_S64x512 (constant S_ .f32 0x00000000#32))
    (broadcastInDim S16384x1 ![0] bcast_S16384_S16384x1_0 a1) y

/-- The head. -/
def headRows (y : FVec F S64x512 .f32) (n : FVec F S64x513 .f32) (a16 : FVec F S1025x768 .f32) (a17 : FVec F S768 .f32)
    (a18 : FVec F S768x512 .f32) (a19 : FVec F S512 .f32) : FVec F S64x512 .f32 :=
  addf (Host.dotGeneral dot_S64x768_S768x512_S64x512_1_0_0_1_n_n none
      (Host.tanh (addf (Host.dotGeneral dot_S64x1025_S1025x768_S64x768_1_0_0_1_n_n none
          (concatenate S64x1025 1 [⟨S64x512, y⟩, ⟨S64x513, n⟩] concatenates_S64x512_S64x513_S64x1025_d1) a16)
        (broadcastInDim S64x768 ![0, 1] bcast_S1x768_S64x768_0_1 (broadcastInDim S1x768 ![1] bcast_S768_S1x768_1 a17)))) a18)
    (broadcastInDim S64x512 ![0, 1] bcast_S1x512_S64x512_0_1 (broadcastInDim S1x512 ![1] bcast_S512_S1x512_1 a19))

/-- Every place's row: its token's row times its position's row. -/
def placeRows (a0 : FVec F S16384x512 .f32) (a1 : IVec S16384 32) (a2 : FVec F S512x1 .f32) (a3 : FVec F S1 .f32)
    (a4 : FVec F S512x512 .f32) (a5 a6 a7 : FVec F S512 .f32) (a8 : FVec F S512x512 .f32) (a9 : FVec F S512 .f32)
    (a10 : FVec F S513x512 .f32) (a11 a12 a13 : FVec F S512 .f32) (a14 : FVec F S512x512 .f32) (a15 : FVec F S512 .f32) :
    FVec F S16384x512 .f32 :=
  mulf (denseRows (normRows (denseRows (rowsAt a0 (order a1 (scores a0 a2 a3))) a4 a5) a6 a7) a8 a9)
    (denseRows (normRows (posRows (keyRows (keys a1 (starts (sizes (F := F) a1)))) a10 a11) a12 a13) a14 a15)

variable (m : (ℓ : Loc nD τ sig) → Buf (Elt F) ℓ) (c : Dev nD)

set_option maxRecDepth 16384 in
set_option maxHeartbeats 4000000 in
/-- The reference's result is its stages composed. -/
theorem res_eq : Value.res_main_v99 m c
    = headRows (segmentSums (m ((c.tc : Thread nD τ).loc main_arg1)) (placeRows (m ((c.tc : Thread nD τ).loc main_arg0)) (m ((c.tc : Thread nD τ).loc main_arg1)) (m ((c.tc : Thread nD τ).loc main_arg2)) (m ((c.tc : Thread nD τ).loc main_arg3))
        (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
        (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15))))
      (sizeRows (sizes (F := F) (m ((c.tc : Thread nD τ).loc main_arg1))))
      (m ((c.tc : Thread nD τ).loc main_arg16)) (m ((c.tc : Thread nD τ).loc main_arg17)) (m ((c.tc : Thread nD τ).loc main_arg18)) (m ((c.tc : Thread nD τ).loc main_arg19)) := by
  rfl

end

end Cert.ReferenceIdeal
-- ==== Proof.Reference.Rows.lean ====
/-
  The reference's rows read at an index, over the extended reals.
-/
module

public import proofs.«01_k».proof.Proof.Reference.Stages
public import proofs.«01_k».proof.Proof.Spec

@[expose] public section

set_option maxRecDepth 16384

namespace Cert.ReferenceIdeal

open Cert.ReferenceIdeal.Gen Idealize.ShloMosaic Idealize.ShloMosaic.StableHlo

theorem zero_word : (FloatOps.sitofp (F := Ideal) .f32 (0#32) : EReal) = 0 := by
  show (((0#32).toInt : ℝ) : EReal) = 0
  simp

theorem means_apply (h : FVec Ideal S16384x512 .f32) (p : Fin 16384) : means h (ix2 p 0) = Spec.mean fun j => h (ix2 p j) := by
  pointwise [means, rowSums, column, Spec.mean]

theorem variances_apply (h : FVec Ideal S16384x512 .f32) (p : Fin 16384) : variances h (ix2 p 0) = Spec.spread fun j => h (ix2 p j) := by
  pointwise [variances, rowSums, column, overCols, Spec.spread, means_apply, lengthLess]
  rw [zero_word, sub_zero, if_pos Spec.length_pos]

theorem normRows_apply (h : FVec Ideal S16384x512 .f32) (g be : FVec Ideal S512 .f32) (p : Fin 16384) (j : Fin 512) :
    normRows h g be (ix2 p j) = Spec.normed (fun j => h (ix2 p j)) (fun j => g (ix1 j)) (fun j => be (ix1 j)) j := by
  pointwise [normRows, overCols, overRows, Spec.normed, means_apply, variances_apply, column]

theorem denseRows_apply (h : FVec Ideal S16384x512 .f32) (W : FVec Ideal S512x512 .f32) (b : FVec Ideal S512 .f32) (p : Fin 16384) (j : Fin 512) :
    denseRows h W b (ix2 p j) = Spec.dense (fun j => h (ix2 p j)) (fun k j => W (ix2 k j)) (fun j => b (ix1 j)) j := by
  pointwise [denseRows, overRows, Spec.dense]

theorem scores_apply (a0 : FVec Ideal S16384x512 .f32) (a2 : FVec Ideal S512x1 .f32) (a3 : FVec Ideal S1 .f32) (p : Fin 16384) :
    scores a0 a2 a3 (ix1 p) = (∑ k, a0 (ix2 p k) * a2 (ix2 k 0)) + a3 (ix1 0) := by
  pointwise [scores]

theorem keyRows_apply (k : IVec S16384 32) (p : Fin 16384) (j : Fin 513) :
    keyRows (F := Ideal) k (ix2 p j) = if k (ix1 p) = BitVec.ofNat 32 j.val then 1 else 0 := by
  pointwise [keyRows]
  exact Spec.unsigned_test _ _

theorem sizeRows_apply (n : IVec S64 32) (s : Fin 64) (j : Fin 513) :
    sizeRows (F := Ideal) n (ix2 s j) = if n (ix1 s) = BitVec.ofNat 32 j.val then 1 else 0 := by
  pointwise [sizeRows]
  exact Spec.unsigned_test _ _

theorem posRows_apply (k : FVec Ideal S16384x513 .f32) (a10 : FVec Ideal S513x512 .f32) (a11 : FVec Ideal S512 .f32) (p : Fin 16384) (j : Fin 512) :
    posRows k a10 a11 (ix2 p j) = (∑ i, k (ix2 p i) * a10 (ix2 i j)) + a11 (ix1 j) := by
  pointwise [posRows, overRows]

theorem headRows_apply (y : FVec Ideal S64x512 .f32) (n : FVec Ideal S64x513 .f32) (a16 : FVec Ideal S1025x768 .f32) (a17 : FVec Ideal S768 .f32)
    (a18 : FVec Ideal S768x512 .f32) (a19 : FVec Ideal S512 .f32) (s : Fin 64) (j : Fin 512) :
    headRows y n a16 a17 a18 a19 (ix2 s j) = Spec.dense (fun k : Fin 768 => Ideal.tanh ((∑ i : Fin 512, y (ix2 s i) * a16 (ix2 (i.castLE (by omega)) k))
      + (∑ i : Fin 513, n (ix2 s i) * a16 (ix2 (i.natAdd 512) k)) + a17 (ix1 k))) (fun k j => a18 (ix2 k j)) (fun j => a19 (ix1 j)) j := by
  pointwise [headRows, Spec.dense]
  rfl

end Cert.ReferenceIdeal
-- ==== Proof.Reference.Places.lean ====
/-
  The reference's places: the segments' sizes and starts, the sorted order, and each place's distance from the start of its
  segment.
-/
module

public import proofs.«01_k».proof.Proof.Reference.Rows
public import Idealize.ShloMosaic.Lib.Routing.OpsOne
public import Idealize.ShloMosaic.Lib.Routing.OpsSet
public import Idealize.ShloMosaic.Lib.Routing.OpsPair

@[expose] public section

set_option maxRecDepth 16384

namespace Cert.ReferenceIdeal

open Cert.ReferenceIdeal.Gen Idealize.ShloMosaic Idealize.ShloMosaic.StableHlo

theorem vix1 {n : ℕ} (i : Fin n) : (ValueIdx.ix1 i : (⟨1, ![n]⟩ : Shape).Idx) = ix1 i := by
  funext a
  match a with
  | ⟨0, _⟩ => rfl

theorem vix2 {n k : ℕ} (i : Fin n) (j : Fin k) : (ValueIdx.ix2 i j : (⟨2, ![n, k]⟩ : Shape).Idx) = ix2 i j := by
  funext a
  match a with
  | ⟨0, _⟩ => rfl
  | ⟨1, _⟩ => rfl

/-- A signed word is a small number where its unsigned reading is. -/
theorem toInt_eq_small (w : BitVec 32) (s : ℕ) (hs : s < 64) : w.toInt = (s : ℤ) ↔ w.toNat = s := by
  rw [BitVec.toInt_eq_toNat_cond]
  split <;> have := w.isLt <;> omega

/-- A word below `2^31`, unsigned, is its number signed. -/
theorem toInt_small {w : BitVec 32} (h : w.toNat < 2 ^ 31) : w.toInt = (w.toNat : ℤ) := by
  rw [BitVec.toInt_eq_toNat_cond, if_pos (by omega)]

theorem column_word (a1 : IVec S16384 32) (i : Fin 16384) :
    (broadcastInDim S16384x1 ![0] bcast_S16384_S16384x1_0 a1) (ix2 i 0) = a1 (ix1 i) := by
  pointwise

/-- Which segment a token's one lands in. -/
theorem lands_size (a1 : IVec S16384 32) (i : Fin 16384) (s : Fin 64) :
    scatter_S64_S16384x1_S16384_n_0_0_1.resultIdx? (ix1 i) (broadcastInDim S16384x1 ![0] bcast_S16384_S16384x1_0 a1) = some (ix1 s)
      ↔ Spec.segments a1 i = s.val := by
  have hst : scatter_S64_S16384x1_S16384_n_0_0_1.start (ix1 i) (broadcastInDim S16384x1 ![0] bcast_S16384_S16384x1_0 a1) 0 = (a1 (ix1 i)).toInt := by
    rw [← column_word a1 i]
    refine congrArg (fun k => (broadcastInDim S16384x1 ![0] bcast_S16384_S16384x1_0 a1 k).toInt) ?_
    funext a
    match a with
    | ⟨0, _⟩ => rfl
    | ⟨1, _⟩ => rfl
  have hw : scatter_S64_S16384x1_S16384_n_0_0_1.window (ix1 i) 0 = 0 := rfl
  rw [← vix1 s]
  refine (Routing.resultIdx?_ix1 (N := 64) scatter_S64_S16384x1_S16384_n_0_0_1 (ix1 i) _ s).trans ?_
  rw [hst, hw]
  unfold Spec.segments
  rw [← toInt_eq_small _ _ s.isLt]
  simp

/-- Which element of the segments' rows a token's feature lands in. -/
theorem lands_row (a1 : IVec S16384 32) (i : Fin 16384) (k : Fin 512) (s : Fin 64) (j : Fin 512) :
    scatter_S64x512_S16384x1_S16384x512_1_0_0_1.resultIdx? (ix2 i k) (broadcastInDim S16384x1 ![0] bcast_S16384_S16384x1_0 a1) = some (ix2 s j)
      ↔ Spec.segments a1 i = s.val ∧ k = j := by
  have hst : scatter_S64x512_S16384x1_S16384x512_1_0_0_1.start (ix2 i k) (broadcastInDim S16384x1 ![0] bcast_S16384_S16384x1_0 a1) 0 = (a1 (ix1 i)).toInt := by
    rw [← column_word a1 i]
    refine congrArg (fun k => (broadcastInDim S16384x1 ![0] bcast_S16384_S16384x1_0 a1 k).toInt) ?_
    funext a
    match a with
    | ⟨0, _⟩ => rfl
    | ⟨1, _⟩ => rfl
  have hst1 : scatter_S64x512_S16384x1_S16384x512_1_0_0_1.start (ix2 i k) (broadcastInDim S16384x1 ![0] bcast_S16384_S16384x1_0 a1) 1 = 0 := rfl
  have hw : scatter_S64x512_S16384x1_S16384x512_1_0_0_1.window (ix2 i k) 0 = 0 := rfl
  have hw1 : scatter_S64x512_S16384x1_S16384x512_1_0_0_1.window (ix2 i k) 1 = k.val := rfl
  rw [← vix2 s j]
  refine (Routing.resultIdx?_ix2 (R := 64) (C := 512) scatter_S64x512_S16384x1_S16384x512_1_0_0_1 (ix2 i k) _ s j).trans ?_
  rw [hst, hw, hst1, hw1]
  unfold Spec.segments
  rw [← toInt_eq_small _ _ s.isLt]
  simp [Fin.ext_iff]

/-- The segment sum at an element. -/
theorem segmentSums_apply (a1 : IVec S16384 32) (y : FVec Ideal S16384x512 .f32) (s : Fin 64) (j : Fin 512) :
    segmentSums a1 y (ix2 s j) = ∑ p, if Spec.segments a1 p = s.val then y (ix2 p j) else 0 := by
  show (broadcastInDim S64x512 ![] bcast_S_S64x512 (constant (F := Ideal) S_ .f32 0x00000000#32)) (ix2 s j)
    + ∑ k ∈ Finset.univ.filter (fun k => scatter_S64x512_S16384x1_S16384x512_1_0_0_1.resultIdx? k
        (broadcastInDim S16384x1 ![0] bcast_S16384_S16384x1_0 a1) = some (ix2 s j)), y k = _
  have h0 : (broadcastInDim S64x512 ![] bcast_S_S64x512 (constant (F := Ideal) S_ .f32 0x00000000#32)) (ix2 s j) = (0 : EReal) := by pointwise
  rw [h0, zero_add, Finset.sum_filter, sum_idx2]
  refine Finset.sum_congr rfl fun p _ => ?_
  refine (Finset.sum_congr rfl fun k _ => if_congr (lands_row a1 p k s j) rfl rfl).trans ?_
  by_cases h : Spec.segments a1 p = s.val
  · simp [h]
  · simp [h]

theorem sum_idx1 {n : ℕ} {M : Type*} [AddCommMonoid M] (f : (⟨1, ![n]⟩ : Shape).Idx → M) : ∑ i, f i = ∑ a : Fin n, f (ix1 a) := by
  refine Fintype.sum_equiv ⟨fun i => i 0, fun a => ix1 a, fun i => ?_, fun a => rfl⟩ _ _ fun i => ?_
  · funext a
    match a with
    | ⟨0, _⟩ => rfl
  · refine congrArg f (funext fun a => ?_)
    match a with
    | ⟨0, _⟩ => rfl

/-- A count as a number, back as a word. -/
theorem word_of_count (n : ℕ) (hn : n ≤ 16384) : FloatOps.fptosi (F := Ideal) (φ := .f32) 32 ((n : ℝ) : EReal) = BitVec.ofNat 32 n := by
  show BitVec.ofInt 32 (max _ (min _ (if (0 : ℝ) ≤ (n : ℝ) then ⌊(n : ℝ)⌋ else ⌈(n : ℝ)⌉))) = _
  rw [if_pos (Nat.cast_nonneg n), Int.floor_natCast, min_eq_right, max_eq_right, BitVec.ofInt_natCast] <;> omega

theorem size_le (b : Fin 16384 → ℕ) (s : ℕ) : Spec.size b s ≤ 16384 := by
  unfold Spec.size
  exact (Finset.card_le_univ _).trans (by rw [Fintype.card_fin])

theorem below_le (b : Fin 16384 → ℕ) (s : ℕ) : Order.below b s ≤ 16384 := by
  unfold Order.below
  exact (Finset.card_le_univ _).trans (by rw [Fintype.card_fin])

/-- The segments' sizes are the counts of their tokens. -/
theorem sizes_apply (a1 : IVec S16384 32) (s : Fin 64) : sizes (F := Ideal) a1 (ix1 s) = BitVec.ofNat 32 (Spec.size (Spec.segments a1) s.val) := by
  rw [← word_of_count _ (size_le _ _)]
  refine congrArg (FloatOps.fptosi (F := Ideal) (φ := .f32) 32) ?_
  show (broadcastInDim S64 ![] bcast_S_S64 (constant (F := Ideal) S_ .f32 0x00000000#32)) (ix1 s)
    + ∑ k ∈ Finset.univ.filter (fun k => scatter_S64_S16384x1_S16384_n_0_0_1.resultIdx? k
        (broadcastInDim S16384x1 ![0] bcast_S16384_S16384x1_0 a1) = some (ix1 s)),
      (broadcastInDim S16384 ![] bcast_S_S16384 (constant (F := Ideal) S_ .f32 0x3F800000#32)) k = _
  have h0 : (broadcastInDim S64 ![] bcast_S_S64 (constant (F := Ideal) S_ .f32 0x00000000#32)) (ix1 s) = (0 : EReal) := by pointwise
  have h1 : ∀ k : Fin 16384, (broadcastInDim S16384 ![] bcast_S_S16384 (constant (F := Ideal) S_ .f32 0x3F800000#32)) (ix1 k) = (1 : EReal) := by
    intro k; pointwise
  rw [h0, zero_add, Finset.sum_filter, sum_idx1]
  refine (Finset.sum_congr rfl fun k _ => if_congr (lands_size a1 k s) (h1 k) rfl).trans ?_
  rw [← Finset.sum_filter, Finset.sum_const, nsmul_one]
  exact (EReal.coe_natCast).symm

theorem below_sum (b : Fin 16384 → ℕ) (k : ℕ) : Order.below b k = ((List.range k).map (Spec.size b)).sum := by
  induction k with
  | zero => simp [Order.below]
  | succ k ih => rw [Order.below_succ, ih, List.range_succ, List.map_append, List.sum_append]; simp [Spec.size]

/-- The segments' starts are the counts of the tokens of the segments before them. -/
theorem starts_apply (a1 : IVec S16384 32) (s : Fin 65) :
    starts (sizes (F := Ideal) a1) (ix1 s) = BitVec.ofNat 32 (Order.below (Spec.segments a1) s.val) := by
  pointwise [starts]
  split
  · rename_i h
    rw [show s.val = 0 by omega]
    simp [Order.below]
  · rename_i h
    have hs := s.isLt
    have := Routing.cumsum1 (N := 64) (Nm1 := 63) rfl (sizes (F := Ideal) a1) (Spec.size (Spec.segments a1))
      (fun i => (congrArg _ (vix1 i)).trans (sizes_apply a1 i)) (broadcastInDim S_ ![] bcast_S_S_ (constantI S_ 32 0#32)) rfl
      reduceWindows_S64_S64_w64s1p63_0 h_S_ ⟨s.val - 1, by omega⟩
    rw [vix1] at this
    rw [this, below_sum]
    show BitVec.ofNat 32 (List.map _ (List.range (s.val - 1 + 1))).sum = _
    rw [show s.val - 1 + 1 = s.val by omega]

/-- A word that is not negative is not wrapped. -/
theorem wrapped_apply (v : IVec S16384 32) (n : BitVec 32) (i : Fin 16384) (h : (v (ix1 i)).toNat < 2 ^ 31) :
    wrapped v n (ix2 i 0) = v (ix1 i) := by
  pointwise [wrapped]
  exact Routing.wrap_of_lt _ _ h

/-- A place's key is its distance from the start of its segment. -/
theorem keys_apply (a1 : IVec S16384 32) (h : Spec.Sorted a1) (p : Fin 16384) :
    keys a1 (starts (sizes (F := Ideal) a1)) (ix1 p)
      = BitVec.ofNat 32 (p.val - Order.below (Spec.segments a1) (Spec.segments a1 p)) := by
  have hlt : (a1 (ix1 p)).toNat < 64 := h.lt p
  have hg := Routing.gather_take1 (N := 65) gather_S65_S16384x1_S16384_n_0_n_n_0_1_1 rfl rfl rfl rfl (starts (sizes (F := Ideal) a1))
    (wrapped a1 65#32) p ⟨(a1 (ix1 p)).toNat, by omega⟩ (by
      rw [vix2, wrapped_apply _ _ _ (by omega)]
      exact BitVec.eq_of_toNat_eq (by rw [BitVec.toNat_ofNat, Nat.mod_eq_of_lt (by omega)])) (by decide)
  rw [vix1, vix1] at hg
  show IntOp.subi _ (Host.gather _ _ _ (ix1 p)) = _
  rw [hg, starts_apply]
  have hb := Order.below_le_of_mem (Spec.segments a1) h.mono p
  have hp := p.isLt
  show BitVec.ofNat 32 p.val - BitVec.ofNat 32 (Order.below (Spec.segments a1) (Spec.segments a1 p)) = _
  refine BitVec.eq_of_toNat_eq ?_
  rw [BitVec.toNat_sub, BitVec.toNat_ofNat, BitVec.toNat_ofNat, BitVec.toNat_ofNat]
  omega

/-- A score as the sort reads it. -/
theorem read_score (x z n : EReal) : Scalar.select (Ideal.cmp .une x x) n (Scalar.select (Ideal.cmp .oeq x z) z x) = x := by
  by_cases h : x = z <;> simp [Scalar.select, Ideal.cmp, h]

/-- The comparison of two tokens: by their segment, then by their score. -/
theorem compare_eq (a b : BitVec 32) (v w : EReal) (i j : BitVec 32) (ha : a.toNat < 64) (hb : b.toNat < 64) :
    comparator_i32_f32_i32_d0 (F := Ideal) (a, v, i) (b, w, j) = BitVec.ofBool (decide (a.toNat < b.toNat ∨ (a.toNat = b.toNat ∧ v < w))) := by
  show IntOp.ori (IntOp.cmpi .slt a b) (IntOp.andi (IntOp.cmpi .eq a b) (Ideal.cmpTotal .lt
    (Scalar.select (Ideal.cmp .une v v) _ (Scalar.select (Ideal.cmp .oeq v _) _ v))
    (Scalar.select (Ideal.cmp .une w w) _ (Scalar.select (Ideal.cmp .oeq w _) _ w)))) = _
  rw [read_score, read_score]
  have h1 : IntOp.cmpi .slt a b = BitVec.ofBool (decide (a.toNat < b.toNat)) := by
    refine congrArg BitVec.ofBool ?_
    show decide (a.toInt < b.toInt) = _
    rw [toInt_small (by omega), toInt_small (by omega)]
    simp
  have h2 : IntOp.cmpi .eq a b = BitVec.ofBool (decide (a.toNat = b.toNat)) := by
    refine congrArg BitVec.ofBool ?_
    by_cases h : a = b
    · simp [h]
    · have h' : ¬ a.toNat = b.toNat := fun e => h (BitVec.eq_of_toNat_eq e)
      simp [h', beq_eq_false_iff_ne.mpr h]
  have h3 : Ideal.cmpTotal .lt v w = BitVec.ofBool (decide (v < w)) := rfl
  rw [h1, h2, h3]
  generalize a.toNat = p
  generalize b.toNat = q
  by_cases h4 : p < q <;> by_cases h5 : p = q <;> by_cases h6 : v < w <;> simp [h4, h5, h6, IntOp.ori, IntOp.andi]

/-- The third list of a stable sort of three, at a place. -/
theorem sort_at {n : ℕ} {α β γ : Type} (cmp : α × β × γ → α × β × γ → BitVec 1) (x : (⟨1, ![n]⟩ : Shape).Idx → α)
    (y : (⟨1, ![n]⟩ : Shape).Idx → β) (z : (⟨1, ![n]⟩ : Shape).Idx → γ) (p : Fin n) :
    (Host.sort3 ⟨1, ![n]⟩ 0 cmp x y z).2.2 (ix1 p)
      = z (Shape.Idx.ofFin (sortedFrom (fun k k' => cmp (x (Shape.Idx.ofFin k), y (Shape.Idx.ofFin k), z (Shape.Idx.ofFin k))
          (x (Shape.Idx.ofFin k'), y (Shape.Idx.ofFin k'), z (Shape.Idx.ofFin k')) == 1#1) p)) := by
  rw [Host.sort3_eq_sortBy]
  unfold Host.sortBy
  simp

/-- The order holds at each place the token that the stable sort puts there. -/
theorem order_apply (a1 : IVec S16384 32) (h : Spec.Sorted a1) (mag : FVec Ideal S16384 .f32) (p : Fin 16384) :
    order a1 mag (ix1 p) = BitVec.ofNat 32 (sortedFrom (Order.lex (Spec.segments a1) fun i => mag (ix1 i)) p).val := by
  have hv : ∀ k : Fin 16384, (Shape.Idx.ofFin k : S16384.Idx) = ix1 k := fun k => funext fun a => by
    match a with
    | ⟨0, _⟩ => rfl
  have hs : (fun k k' : Fin 16384 => comparator_i32_f32_i32_d0 (F := Ideal)
        (a1 (ix1 k), mag (ix1 k), iotaInDim S16384 32 0 (ix1 k)) (a1 (ix1 k'), mag (ix1 k'), iotaInDim S16384 32 0 (ix1 k')) == 1#1)
      = Order.lex (Spec.segments a1) fun i => mag (ix1 i) := by
    funext k k'
    rw [compare_eq _ _ _ _ _ _ (h.lt k) (h.lt k')]
    refine ((by decide : ∀ c : Bool, (BitVec.ofBool c == 1#1) = c) _).trans ?_
    exact decide_eq_decide.mpr Iff.rfl
  rw [← hs]
  refine (sort_at _ _ _ _ p).trans ?_
  simp only [hv]
  rfl

/-- The sorted rows. -/
theorem rowsAt_apply (a0 : FVec Ideal S16384x512 .f32) (o : IVec S16384 32) (p q : Fin 16384) (ho : o (ix1 p) = BitVec.ofNat 32 q.val) (j : Fin 512) :
    rowsAt a0 o (ix2 p j) = a0 (ix2 q j) := by
  have hq := q.isLt
  have hg := Routing.gather_row (nb := 16384) gather_S16384x512_S16384x1_S16384x512_1_0_n_n_0_1_1512 rfl rfl rfl rfl rfl a0
    (wrapped o 16384#32) p j q (by
      rw [vix2, wrapped_apply _ _ _ (by rw [ho, BitVec.toNat_ofNat]; omega), ho]) (by decide)
  rw [vix2, vix2] at hg
  exact hg

end Cert.ReferenceIdeal
-- ==== Proof.Reference.Result.lean ====
/-
  The reference computes the network's result.
-/
module

public import proofs.«01_k».proof.Proof.Reference.Places

@[expose] public section

set_option maxRecDepth 16384

namespace Cert.ReferenceIdeal

open Cert.ReferenceIdeal.Gen Idealize.ShloMosaic Idealize.ShloMosaic.StableHlo

section

variable (a0 : FVec Ideal S16384x512 .f32) (a1 : IVec S16384 32) (a2 : FVec Ideal S512x1 .f32) (a3 : FVec Ideal S1 .f32)
  (a4 : FVec Ideal S512x512 .f32) (a5 a6 a7 : FVec Ideal S512 .f32) (a8 : FVec Ideal S512x512 .f32) (a9 : FVec Ideal S512 .f32)
  (a10 : FVec Ideal S513x512 .f32) (a11 a12 a13 : FVec Ideal S512 .f32) (a14 : FVec Ideal S512x512 .f32) (a15 : FVec Ideal S512 .f32)
  (a16 : FVec Ideal S1025x768 .f32) (a17 : FVec Ideal S768 .f32) (a18 : FVec Ideal S768x512 .f32) (a19 : FVec Ideal S512 .f32)

/-- A token's score, as the network has it. -/
theorem scores_spec : (fun i => scores a0 a2 a3 (ix1 i)) = Spec.score (Spec.ofArrays a2 a3 a4 a5 a6 a7 a8 a9 a10 a11 a12 a13 a14 a15 a16 a17 a18 a19) (Spec.tokens a0) :=
  funext fun i => scores_apply a0 a2 a3 i

/-- The position rows before their network: what the place's key picks. -/
theorem posRows_pick (k : IVec S16384 32) (p : Fin 16384) (r : ℕ) (hr : r < 2 ^ 32) (hk : k (ix1 p) = BitVec.ofNat 32 r) :
    (fun j => posRows (keyRows (F := Ideal) k) a10 a11 (ix2 p j)) = fun j => Spec.posPick (Spec.ofArrays a2 a3 a4 a5 a6 a7 a8 a9 a10 a11 a12 a13 a14 a15 a16 a17 a18 a19) r j + a11 (ix1 j) := by
  funext j
  rw [posRows_apply]
  refine congrArg (· + a11 (ix1 j)) ?_
  refine Eq.trans ?_ (Spec.sum_pick (n := 513) r fun i => a10 (ix2 i j))
  refine Finset.sum_congr rfl fun i _ => ?_
  rw [keyRows_apply, hk]
  have hi := i.isLt
  exact congrArg (· * a10 (ix2 i j)) (if_congr (Spec.word_eq_iff hr (by omega)) rfl rfl)

/-- A place's row: its token's row times its position's. -/
theorem placeRows_apply (h : Spec.Sorted a1) (p : Fin 16384) (j : Fin 512) :
    placeRows a0 a1 a2 a3 a4 a5 a6 a7 a8 a9 a10 a11 a12 a13 a14 a15 (ix2 p j)
      = Spec.psi (Spec.ofArrays a2 a3 a4 a5 a6 a7 a8 a9 a10 a11 a12 a13 a14 a15 a16 a17 a18 a19) (Spec.tokens a0 (sortedFrom (Order.lex (Spec.segments a1) (Spec.score (Spec.ofArrays a2 a3 a4 a5 a6 a7 a8 a9 a10 a11 a12 a13 a14 a15 a16 a17 a18 a19) (Spec.tokens a0))) p)) j
        * Spec.pos (Spec.ofArrays a2 a3 a4 a5 a6 a7 a8 a9 a10 a11 a12 a13 a14 a15 a16 a17 a18 a19) (p.val - Order.below (Spec.segments a1) (Spec.segments a1 p)) j := by
  have hp := p.isLt
  rw [← scores_spec a0 a2 a3 a4 a5 a6 a7 a8 a9 a10 a11 a12 a13 a14 a15 a16 a17 a18 a19]
  have ho := order_apply a1 h (scores a0 a2 a3) p
  have hk := keys_apply a1 h p
  generalize hq : sortedFrom _ p = q at ho ⊢
  show denseRows _ a8 a9 (ix2 p j) * denseRows _ a14 a15 (ix2 p j) = _
  simp only [denseRows_apply, normRows_apply, rowsAt_apply a0 _ p q ho,
    posRows_pick a2 a3 a4 a5 a6 a7 a8 a9 a10 a11 a12 a13 a14 a15 a16 a17 a18 a19 _ p _ (by omega) hk]
  rfl

/-- The reference's result at an element. -/
theorem result_apply (h : Spec.Sorted a1) (s : Fin 64) (j : Fin 512) :
    headRows (segmentSums a1 (placeRows a0 a1 a2 a3 a4 a5 a6 a7 a8 a9 a10 a11 a12 a13 a14 a15)) (sizeRows (sizes (F := Ideal) a1)) a16 a17 a18 a19 (ix2 s j)
      = Spec.result (Spec.ofArrays a2 a3 a4 a5 a6 a7 a8 a9 a10 a11 a12 a13 a14 a15 a16 a17 a18 a19) (Spec.tokens a0) (Spec.segments a1) s.val j := by
  have hy : (fun k => segmentSums a1 (placeRows a0 a1 a2 a3 a4 a5 a6 a7 a8 a9 a10 a11 a12 a13 a14 a15) (ix2 s k))
      = Spec.pooled (Spec.ofArrays a2 a3 a4 a5 a6 a7 a8 a9 a10 a11 a12 a13 a14 a15 a16 a17 a18 a19) (Spec.tokens a0) (Spec.segments a1) s.val := by
    funext k
    rw [segmentSums_apply]
    refine Eq.trans ?_ (Order.sum_sorted _ (Spec.score (Spec.ofArrays a2 a3 a4 a5 a6 a7 a8 a9 a10 a11 a12 a13 a14 a15 a16 a17 a18 a19) (Spec.tokens a0)) h.mono s.val
      fun i r => Spec.psi (Spec.ofArrays a2 a3 a4 a5 a6 a7 a8 a9 a10 a11 a12 a13 a14 a15 a16 a17 a18 a19) (Spec.tokens a0 i) k * Spec.pos (Spec.ofArrays a2 a3 a4 a5 a6 a7 a8 a9 a10 a11 a12 a13 a14 a15 a16 a17 a18 a19) r k)
    exact Finset.sum_congr rfl fun p _ => if_congr Iff.rfl
      (placeRows_apply a0 a1 a2 a3 a4 a5 a6 a7 a8 a9 a10 a11 a12 a13 a14 a15 a16 a17 a18 a19 h p k) rfl
  have hn : ∀ i : Fin 513, sizeRows (F := Ideal) (sizes (F := Ideal) a1) (ix2 s i)
      = if Spec.size (Spec.segments a1) s.val = i.val then 1 else 0 := fun i => by
    have hi := i.isLt
    have := size_le (Spec.segments a1) s.val
    rw [sizeRows_apply, sizes_apply]
    exact if_congr (Spec.word_eq_iff (by omega) (by omega)) rfl rfl
  rw [headRows_apply]
  simp only [hn, congrFun hy]
  rfl

end

end Cert.ReferenceIdeal
-- ==== Proof.Equation.lean ====
/-
  The two programs' results are equal where the segments are sorted.
-/
module

public import proofs.«01_k».proof.Proof.KernelIdeal.Value
public import proofs.«01_k».proof.Proof.Reference.Result

@[expose] public section

set_option maxRecDepth 16384

namespace Cert

open Idealize.ShloMosaic Idealize.ShloMosaic.TcCoe Idealize.SL.Sem

/-- The reference's result on equal arguments is what the kernel's last point leaves. -/
theorem results_agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (hs : Spec.Sorted (KernelIdeal.Gen.batchOf m c))
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)) :
    ReferenceIdeal.Value.res_main_v99 m' c = KernelIdeal.Gen.finalOut m c := by
  obtain ⟨h0, h1, h2, h3, h4, h5, h6, h7, h8, h9, h10, h11, h12, h13, h14, h15, h16, h17, h18, h19⟩ := h
  refine (ReferenceIdeal.res_eq m' c).trans ?_
  rw [h0, h1, h2, h3, h4, h5, h6, h7, h8, h9, h10, h11, h12, h13, h14, h15, h16, h17, h18, h19]
  funext i
  rw [eq_ix2 i]
  exact (ReferenceIdeal.result_apply _ _ _ _ _ _ _ _ _ _ _ _ _ _ _ _ _ _ _ _ hs _ _).trans (KernelIdeal.Gen.finalOut_apply m c hs _ _).symm

end Cert
-- ==== Proof.Pre.lean ====
/-
  What the precondition says of the segments.
-/
module

public import proofs.«01_k».proof.Pre_batch_is_sorted
public import proofs.«01_k».proof.Proof.Spec
public import proofs.«01_k».proof.Proof.Counts
public import Idealize.ShloMosaic.Lib.Pointwise

@[expose] public section

set_option maxRecDepth 16384

namespace Cert.Pre_batch_is_sorted

open Idealize.ShloMosaic Cert.Counts

/-- Two bits' conjunction. -/
theorem andi_iff (a b : BitVec 1) : IntOp.andi a b = 1#1 ↔ a = 1#1 ∧ b = 1#1 := by
  revert a b
  decide

/-- A conjunction over a finite set holds where every member does. -/
theorem of_fold {ι : Type} (S : Finset ι) (f : ι → BitVec 1) (z : BitVec 1) (h : S.fold IntOp.andi z f = 1#1) (i : ι) (hi : i ∈ S) : f i = 1#1 := by
  classical
  induction S using Finset.induction_on with
  | empty => exact absurd hi (Finset.notMem_empty i)
  | insert k S hk ih =>
    rw [Finset.fold_insert hk, andi_iff] at h
    rcases Finset.mem_insert.mp hi with rfl | hi
    · exact h.1
    · exact ih h.2 hi

/-- The signed comparison, read. -/
theorem sge_iff (a b : BitVec 32) : IntOp.cmpi .sge a b = 1#1 ↔ b.toInt ≤ a.toInt := by
  show BitVec.ofBool (decide (b.toInt ≤ a.toInt)) = 1#1 ↔ _
  by_cases h : b.toInt ≤ a.toInt <;> simp [h]

/-- A word that is not negative reads the same with and without its sign. -/
theorem toNat_of_nonneg (a : BitVec 32) (h : 0 ≤ a.toInt) : (a.toNat : ℤ) = a.toInt := by
  have := a.isLt
  rw [BitVec.toInt_eq_toNat_cond] at h ⊢
  split at h <;> omega

/-- Words none of which is negative, each under 64 and none above the next, are sorted segments. -/
theorem sorted_of_words (a1 : IVec S16384 32) (h0 : ∀ i, 0 ≤ (a1 (ix1 i)).toInt) (h1 : ∀ i, (a1 (ix1 i)).toInt < 64)
    (h2 : ∀ (i : ℕ) (h : i + 1 < 16384), (a1 (ix1 ⟨i, Nat.lt_of_succ_lt h⟩)).toInt ≤ (a1 (ix1 ⟨i + 1, h⟩)).toInt) : Spec.Sorted a1 where
  mono := by
    have key : ∀ (d i : ℕ) (h : i + d < 16384), Spec.segments a1 ⟨i, by omega⟩ ≤ Spec.segments a1 ⟨i + d, h⟩ := by
      intro d
      induction d with
      | zero => intro i h; exact Nat.le_refl _
      | succ d ih =>
        intro i h
        refine (ih i (by omega)).trans ?_
        have e := h2 (i + d) h
        have e1 := toNat_of_nonneg _ (h0 ⟨i + d, by omega⟩)
        have e2 := toNat_of_nonneg _ (h0 ⟨i + d + 1, h⟩)
        show (a1 (ix1 ⟨i + d, _⟩)).toNat ≤ (a1 (ix1 ⟨i + d + 1, h⟩)).toNat
        omega
    intro i j hij
    obtain ⟨d, hd⟩ := Nat.exists_eq_add_of_le (show i.val ≤ j.val from hij)
    have hj := j.isLt
    obtain ⟨i, hi⟩ := i
    obtain ⟨j, hj'⟩ := j
    subst hd
    exact key d i hj
  lt i := by
    have e := h1 i
    have e1 := toNat_of_nonneg _ (h0 i)
    show (a1 (ix1 i)).toNat < 64
    omega

/-- The side conditions of the precondition's operations hold. -/
theorem facts : Facts where
  slices_S16384_S16383_0 := by decide
  slices_S16384_S16383_1 := by decide
  reducesTo_S16383_S_d0 := by decide
  h_S_ := by decide
  bcast_S_S16384 := by decide
  reducesTo_S16384_S_d0 := by decide

variable [Facts] (a0 : FVec Ideal S16384x512 .f32) (a1 : IVec S16384 32)
  (a2 : FVec Ideal S512x1 .f32) (a3 : FVec Ideal S1 .f32) (a4 : FVec Ideal S512x512 .f32)
    (a5 a6 a7 : FVec Ideal S512 .f32) (a8 : FVec Ideal S512x512 .f32) (a9 : FVec Ideal S512 .f32)
    (a10 : FVec Ideal S513x512 .f32) (a11 a12 a13 : FVec Ideal S512 .f32) (a14 : FVec Ideal S512x512 .f32)
    (a15 : FVec Ideal S512 .f32) (a16 : FVec Ideal S1025x768 .f32) (a17 : FVec Ideal S768 .f32)
    (a18 : FVec Ideal S768x512 .f32) (a19 : FVec Ideal S512 .f32)

/-- Where the precondition holds the segments are sorted. -/
theorem sorted_of (x : S_.Idx) (h : fn (F := Ideal) a0 a1 a2 a3 a4 a5 a6 a7 a8 a9 a10 a11 a12 a13 a14 a15 a16 a17 a18 a19 x = 1#1) : Spec.Sorted a1 := by
  revert h
  pointwise [fn]
  intro h
  rw [andi_iff, andi_iff] at h
  obtain ⟨⟨h0, h1⟩, h2⟩ := h
  refine sorted_of_words a1 (fun i => ?_) (fun i => ?_) fun i hi => ?_
  · exact (sge_iff _ _).mp (of_fold _ _ _ h0 i (Finset.mem_univ _))
  · exact (slt_iff _ _).mp (of_fold _ _ _ h1 i (Finset.mem_univ _))
  · have e := (sle_iff _ _).mp (of_fold _ _ _ h2 ⟨i, by omega⟩ (Finset.mem_univ _))
    rw [show (⟨i + 1, hi⟩ : Fin 16384) = ⟨1 + i, by omega⟩ from Fin.ext (Nat.add_comm i 1)]
    exact e

end Cert.Pre_batch_is_sorted
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Kernel.Launched
public import proofs.«01_k».proof.Proof.Equation
public import proofs.«01_k».proof.Proof.Pre
public import Idealize.ShloMosaic.Adequacy
public import Idealize.ShloMosaic.Init
public import Idealize.ShloMosaic.Lib.Quiescent

@[expose] public section

noncomputable section

namespace Cert.Proof

open Idealize.ShloMosaic Idealize.SL.Sem

/-- The reference runs, keeps its arguments and ends with every counter at zero. -/
theorem quiescent_ReferenceIdeal : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Where the segments are sorted the two programs end with equal results. -/
theorem algebraic_of (hP : Cert.Pre_batch_is_sorted.Facts) : algebraic_KernelIdeal_ReferenceIdeal_pre_batch_is_sorted := by
  intro m ρ m' ρ' hpre hagree
  refine ⟨_, Cert.KernelIdeal.Gen.value_run m ρ, ?_⟩
  refine (θ_run Cert.ReferenceIdeal.defs _ _).mono (fun _ h c => ⟨?_, (h c).2⟩) (Cert.ReferenceIdeal.Value.run (F := Ideal) m' ρ')
  rw [(h c).1]
  exact results_agree m m' c (Pre_batch_is_sorted.sorted_of _ _ _ _ _ _ _ _ _ _ _ _ _ _ _ _ _ _ _ _ (fun a => a.elim0) (congrFun (hpre c) _)) (hagree c)

theorem claim : Cert.Claim :=
  ⟨Cert.Kernel.Gen.facts, Cert.KernelIdeal.Gen.facts, Cert.ReferenceIdeal.Gen.facts, Cert.Pre_batch_is_sorted.facts,
    fun m ρ _ => Cert.Kernel.Gen.frame m ρ, fun m ρ _ => Cert.KernelIdeal.Gen.frame m ρ, fun m ρ _ => Cert.KernelIdeal.Gen.frame m ρ,
    quiescent_ReferenceIdeal, fun m ρ _ => quiescent_ReferenceIdeal m ρ trivial, trivial, algebraic_of _⟩

end Cert.Proof

end
